-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router_inputs [hPre_finite_router_inputs : Cert.Pre_finite_router_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_router_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router_inputs [hPre_finite_router_inputs : Cert.Pre_finite_router_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_router_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_router_inputs [hKernelIdeal : Cert.KernelIdeal.Facts] [hPre_finite_router_inputs : Cert.Pre_finite_router_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_router_inputs [hReferenceIdeal : Cert.ReferenceIdeal.Facts] [hPre_finite_router_inputs : Cert.Pre_finite_router_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_router_inputs [hKernelIdeal : Cert.KernelIdeal.Facts] [hReferenceIdeal : Cert.ReferenceIdeal.Facts] [hPre_finite_router_inputs : Cert.Pre_finite_router_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v276) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_router_inputs : Cert.Pre_finite_router_inputs.Facts),
    quiescent_Kernel (hKernel := hKernel)
    ∧ quiescent_KernelIdeal (hKernelIdeal := hKernelIdeal)
    ∧ quiescent_KernelIdeal_pre_finite_router_inputs (hKernelIdeal := hKernelIdeal) (hPre_finite_router_inputs := hPre_finite_router_inputs)
    ∧ quiescent_ReferenceIdeal (hReferenceIdeal := hReferenceIdeal)
    ∧ quiescent_ReferenceIdeal_pre_finite_router_inputs (hReferenceIdeal := hReferenceIdeal) (hPre_finite_router_inputs := hPre_finite_router_inputs)
    ∧ preserves_Kernel_KernelIdeal
    ∧ algebraic_KernelIdeal_ReferenceIdeal_pre_finite_router_inputs (hKernelIdeal := hKernelIdeal) (hReferenceIdeal := hReferenceIdeal) (hPre_finite_router_inputs := hPre_finite_router_inputs)
-- ==== Pre_finite_router_inputs.lean ====
abbrev S1x2048x2048 : Shape := ⟨3, ![1, 2048, 2048]⟩
abbrev S16x2048 : Shape := ⟨2, ![16, 2048]⟩
abbrev S4x1024x2048 : Shape := ⟨3, ![4, 1024, 2048]⟩
abbrev S4x2048x1024 : Shape := ⟨3, ![4, 2048, 1024]⟩
abbrev S4x2048x4 : Shape := ⟨3, ![4, 2048, 4]⟩
abbrev S2048x2048 : Shape := ⟨2, ![2048, 2048]⟩
abbrev S_ : Shape := ⟨0, ![]⟩

class Facts : Prop where
  bcast_S_S1x2048x2048 : S_.BroadcastsInDim S1x2048x2048 (![] : Fin 0 → Fin S1x2048x2048.rank)
  bcast_S_S16x2048 : S_.BroadcastsInDim S16x2048 (![] : Fin 0 → Fin S16x2048.rank)

variable [Facts]

def fn {F : FTy → Type} [FloatOps F] (main_arg0 : FVec F S1x2048x2048 .f32) (main_arg1 : FVec F S16x2048 .f32) (main_arg2 : FVec F S4x1024x2048 .f32) (main_arg3 : FVec F S4x1024x2048 .f32) (main_arg4 : FVec F S4x2048x1024 .f32) (main_arg5 : FVec F S4x2048x4 .f32) (main_arg6 : FVec F S2048x2048 .f32) (main_arg7 : FVec F S2048x2048 .f32) (main_arg8 : FVec F S2048x2048 .f32) : IVec S1x2048x2048 1 × IVec S16x2048 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S16x2048 .f32 := Host.absf main_arg1
  let main_cst_0 : FVec F S_ .f32 := constant S_ .f32 0x7F800000#32
  let main_v4 : FVec F S16x2048 .f32 := broadcastInDim S16x2048 ![] bcast_S_S16x2048 main_cst_0
  let main_v5 : IVec S16x2048 1 := cmpf .olt main_v3 main_v4
  (main_v2, main_v5)
-- ==== Kernel.lean ====
abbrev S1x2048x2048 : Shape := ⟨3, ![1, 2048, 2048]⟩
abbrev S16x2048 : Shape := ⟨2, ![16, 2048]⟩
abbrev S4x1024x2048 : Shape := ⟨3, ![4, 1024, 2048]⟩
abbrev S4x2048x1024 : Shape := ⟨3, ![4, 2048, 1024]⟩
abbrev S4x2048x4 : Shape := ⟨3, ![4, 2048, 4]⟩
abbrev S2048x2048 : Shape := ⟨2, ![2048, 2048]⟩
abbrev S2048x4x4 : Shape := ⟨3, ![2048, 4, 4]⟩
abbrev S2048x16 : Shape := ⟨2, ![2048, 16]⟩
abbrev S4x2048x32 : Shape := ⟨3, ![4, 2048, 32]⟩
abbrev S512x2048 : Shape := ⟨2, ![512, 2048]⟩
abbrev S4x512x32 : Shape := ⟨3, ![4, 512, 32]⟩
abbrev S512x16 : Shape := ⟨2, ![512, 16]⟩
abbrev S512 : Shape := ⟨1, ![512]⟩
abbrev S512x1 : Shape := ⟨2, ![512, 1]⟩
abbrev S512x15 : Shape := ⟨2, ![512, 15]⟩
abbrev S512x32 : Shape := ⟨2, ![512, 32]⟩
abbrev S1x512x32 : Shape := ⟨3, ![1, 512, 32]⟩
abbrev S1x2048x32 : Shape := ⟨3, ![1, 2048, 32]⟩
abbrev S1x256x2048 : Shape := ⟨3, ![1, 256, 2048]⟩
abbrev S1x2048x256 : Shape := ⟨3, ![1, 2048, 256]⟩
abbrev S1x2048x16 : Shape := ⟨3, ![1, 2048, 16]⟩
abbrev S256x2048 : Shape := ⟨2, ![256, 2048]⟩
abbrev S2048x256 : Shape := ⟨2, ![2048, 256]⟩
abbrev S1024x2048 : Shape := ⟨2, ![1024, 2048]⟩
abbrev S1024x256 : Shape := ⟨2, ![1024, 256]⟩
abbrev S1x1024x1 : Shape := ⟨3, ![1, 1024, 1]⟩
abbrev S1024x1 : Shape := ⟨2, ![1024, 1]⟩

abbrev nBuf : Space → Nat
  | .hbm => 17
  | .vmem => 28
  | .smem => 0
  | _ => 0

abbrev bufTy : (tb : Table) → Fin (tcTables nBuf tb) → BufTy
  | .hbm, ⟨0, _⟩ => ⟨S1x2048x2048, .f32⟩
  | .hbm, ⟨1, _⟩ => ⟨S16x2048, .f32⟩
  | .hbm, ⟨2, _⟩ => ⟨S4x1024x2048, .f32⟩
  | .hbm, ⟨3, _⟩ => ⟨S4x1024x2048, .f32⟩
  | .hbm, ⟨4, _⟩ => ⟨S4x2048x1024, .f32⟩
  | .hbm, ⟨5, _⟩ => ⟨S4x2048x4, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x4x4, .f32⟩
  | .hbm, ⟨11, _⟩ => ⟨S2048x16, .f32⟩
  | .hbm, ⟨12, _⟩ => ⟨S4x2048x32, .f32⟩
  | .hbm, ⟨13, _⟩ => ⟨S2048x2048, .bf16⟩
  | .hbm, ⟨14, _⟩ => ⟨S2048x2048, .f32⟩
  | .hbm, ⟨15, _⟩ => ⟨S2048x2048, .f32⟩
  | .hbm, ⟨16, _⟩ => ⟨S1x2048x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S4x512x32, .f32⟩
  | .local _ .vmem, ⟨4, _⟩ => ⟨S4x512x32, .f32⟩
  | .local _ .vmem, ⟨5, _⟩ => ⟨S512x2048, .bf16⟩
  | .local _ .vmem, ⟨6, _⟩ => ⟨S512x2048, .bf16⟩
  | .local _ .vmem, ⟨7, _⟩ => ⟨S2048x2048, .bf16⟩
  | .local _ .vmem, ⟨8, _⟩ => ⟨S1x2048x32, .f32⟩
  | .local _ .vmem, ⟨9, _⟩ => ⟨S1x2048x32, .f32⟩
  | .local _ .vmem, ⟨10, _⟩ => ⟨S2048x16, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x2048x256, .f32⟩
  | .local _ .vmem, ⟨16, _⟩ => ⟨S1x2048x256, .f32⟩
  | .local _ .vmem, ⟨17, _⟩ => ⟨S2048x2048, .f32⟩
  | .local _ .vmem, ⟨18, _⟩ => ⟨S2048x2048, .bf16⟩
  | .local _ .vmem, ⟨19, _⟩ => ⟨S2048x2048, .bf16⟩
  | .local _ .vmem, ⟨20, _⟩ => ⟨S2048x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .f32⟩
  | .local _ .vmem, ⟨25, _⟩ => ⟨S2048x256, .f32⟩
  | .local _ .vmem, ⟨26, _⟩ => ⟨S2048x256, .f32⟩
  | .local _ .vmem, ⟨27, _⟩ => ⟨S2048x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3_0 : Ref sig .tc := ⟨.hbm, 12, rfl⟩
abbrev main_call0_v3_1 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc2_sem0_0 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc1_transform_4 (i : grid1.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc1_transform_5 (i : grid1.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x2048x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S2048x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2048x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2048x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2048x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S2048x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]
-- ==== ReferenceIdeal.lean ====
abbrev S1x2048x2048 : Shape := ⟨3, ![1, 2048, 2048]⟩
abbrev S16x2048 : Shape := ⟨2, ![16, 2048]⟩
abbrev S4x1024x2048 : Shape := ⟨3, ![4, 1024, 2048]⟩
abbrev S4x2048x1024 : Shape := ⟨3, ![4, 2048, 1024]⟩
abbrev S4x2048x4 : Shape := ⟨3, ![4, 2048, 4]⟩
abbrev S2048x2048 : Shape := ⟨2, ![2048, 2048]⟩
abbrev S2048x16 : Shape := ⟨2, ![2048, 16]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S2048x4 : Shape := ⟨2, ![2048, 4]⟩
abbrev S1x2048x4 : Shape := ⟨3, ![1, 2048, 4]⟩
abbrev S4x2048 : Shape := ⟨2, ![4, 2048]⟩
abbrev S1x1024x2048 : Shape := ⟨3, ![1, 1024, 2048]⟩
abbrev S1024x2048 : Shape := ⟨2, ![1024, 2048]⟩
abbrev S2048x1024 : Shape := ⟨2, ![2048, 1024]⟩
abbrev S1x2048x1024 : Shape := ⟨3, ![1, 2048, 1024]⟩

abbrev nBuf : Space → Nat
  | .hbm => 392
  | .vmem => 0
  | .smem => 0
  | _ => 0

abbrev hbmTy0_0 (i : Nat) : BufTy := match i % 128 with
  | 0 => ⟨S1x2048x2048, .f32⟩
  | 1 => ⟨S16x2048, .f32⟩
  | 2 => ⟨S4x1024x2048, .f32⟩
  | 3 => ⟨S4x1024x2048, .f32⟩
  | 4 => ⟨S4x2048x1024, .f32⟩
  | 5 => ⟨S4x2048x4, .f32⟩
  | 6 => ⟨S2048x2048, .f32⟩
  | 7 => ⟨S2048x2048, .f32⟩
  | 8 => ⟨S2048x2048, .f32⟩
  | 9 => ⟨S2048x2048, .f32⟩
  | 10 => ⟨S2048x16, .f32⟩
  | 11 => ⟨S2048x16, .f32⟩
  | 12 => ⟨S_, .f32⟩
  | 13 => ⟨S2048, .f32⟩
  | 14 => ⟨S_, .f32⟩
  | 15 => ⟨S2048, .f32⟩
  | 16 => ⟨S2048, .f32⟩
  | 17 => ⟨S2048x1, .f32⟩
  | 18 => ⟨S2048x16, .f32⟩
  | 19 => ⟨S2048x16, .f32⟩
  | 20 => ⟨S2048x16, .f32⟩
  | 21 => ⟨S_, .f32⟩
  | 22 => ⟨S2048, .f32⟩
  | 23 => ⟨S2048x1, .f32⟩
  | 24 => ⟨S2048x16, .f32⟩
  | 25 => ⟨S2048x16, .f32⟩
  | 26 => ⟨S2048x2, .f32⟩
  | 27 => ⟨S2048x2, .i32⟩
  | 28 => ⟨S_, .f32⟩
  | 29 => ⟨S2048x2048, .f32⟩
  | 30 => ⟨S_, .i32⟩
  | 31 => ⟨S2048x2, .i32⟩
  | 32 => ⟨S2048x2, .i1⟩
  | 33 => ⟨S2048x2, .f32⟩
  | 34 => ⟨S2048x2, .f32⟩
  | 35 => ⟨S_, .f32⟩
  | 36 => ⟨S2048, .f32⟩
  | 37 => ⟨S_, .i32⟩
  | 38 => ⟨S2048x2, .i32⟩
  | 39 => ⟨S2048x2, .i1⟩
  | 40 => ⟨S2048x2, .f32⟩
  | 41 => ⟨S2048x2, .f32⟩
  | 42 => ⟨S_, .f32⟩
  | 43 => ⟨S2048, .f32⟩
  | 44 => ⟨S_, .i32⟩
  | 45 => ⟨S2048x2, .i32⟩
  | 46 => ⟨S2048x2, .i1⟩
  | 47 => ⟨S2048x2, .f32⟩
  | 48 => ⟨S2048x2, .f32⟩
  | 49 => ⟨S_, .f32⟩
  | 50 => ⟨S2048, .f32⟩
  | 51 => ⟨S_, .i32⟩
  | 52 => ⟨S2048x2, .i32⟩
  | 53 => ⟨S2048x2, .i1⟩
  | 54 => ⟨S2048x2, .f32⟩
  | 55 => ⟨S2048x2, .f32⟩
  | 56 => ⟨S_, .f32⟩
  | 57 => ⟨S2048, .f32⟩
  | 58 => ⟨S2048x1, .f32⟩
  | 59 => ⟨S2048x1, .f32⟩
  | 60 => ⟨S2048x1, .f32⟩
  | 61 => ⟨S2048x1, .f32⟩
  | 62 => ⟨S2048x4, .f32⟩
  | 63 => ⟨S_, .f32⟩
  | 64 => ⟨S2048, .f32⟩
  | 65 => ⟨S2048x1, .f32⟩
  | 66 => ⟨S_, .f32⟩
  | 67 => ⟨S2048x4, .f32⟩
  | 68 => ⟨S2048x4, .i1⟩
  | 69 => ⟨S_, .f32⟩
  | 70 => ⟨S2048x4, .f32⟩
  | 71 => ⟨S2048x4, .f32⟩
  | 72 => ⟨S_, .f32⟩
  | 73 => ⟨S2048, .f32⟩
  | 74 => ⟨S_, .f32⟩
  | 75 => ⟨S2048, .f32⟩
  | 76 => ⟨S2048, .f32⟩
  | 77 => ⟨S2048x1, .f32⟩
  | 78 => ⟨S2048x4, .f32⟩
  | 79 => ⟨S2048x4, .f32⟩
  | 80 => ⟨S2048x4, .f32⟩
  | 81 => ⟨S_, .f32⟩
  | 82 => ⟨S2048, .f32⟩
  | 83 => ⟨S2048x1, .f32⟩
  | 84 => ⟨S2048x4, .f32⟩
  | 85 => ⟨S2048x4, .f32⟩
  | 86 => ⟨S1x2048x4, .f32⟩
  | 87 => ⟨S2048x4, .f32⟩
  | 88 => ⟨S4x2048, .f32⟩
  | 89 => ⟨S2048x2048, .f32⟩
  | 90 => ⟨S2048x2048, .f32⟩
  | 91 => ⟨S1x1024x2048, .f32⟩
  | 92 => ⟨S1024x2048, .f32⟩
  | 93 => ⟨S2048x1024, .f32⟩
  | 94 => ⟨S2048x1024, .f32⟩
  | 95 => ⟨S2048x1024, .f32⟩
  | 96 => ⟨S2048x1024, .f32⟩
  | 97 => ⟨S_, .f32⟩
  | 98 => ⟨S2048x1024, .f32⟩
  | 99 => ⟨S2048x1024, .f32⟩
  | 100 => ⟨S_, .f32⟩
  | 101 => ⟨S2048x1024, .f32⟩
  | 102 => ⟨S2048x1024, .f32⟩
  | 103 => ⟨S2048x1024, .f32⟩
  | 104 => ⟨S1x1024x2048, .f32⟩
  | 105 => ⟨S1024x2048, .f32⟩
  | 106 => ⟨S2048x1024, .f32⟩
  | 107 => ⟨S2048x1024, .f32⟩
  | 108 => ⟨S2048x1024, .f32⟩
  | 109 => ⟨S1x2048x1024, .f32⟩
  | 110 => ⟨S2048x1024, .f32⟩
  | 111 => ⟨S1024x2048, .f32⟩
  | 112 => ⟨S2048x2048, .f32⟩
  | 113 => ⟨S2048x2048, .f32⟩
  | 114 => ⟨S2048x2048, .f32⟩
  | 115 => ⟨S2048x2048, .f32⟩
  | 116 => ⟨S_, .i32⟩
  | 117 => ⟨S2048x2, .i32⟩
  | 118 => ⟨S2048x2, .i1⟩
  | 119 => ⟨S2048x2, .f32⟩
  | 120 => ⟨S2048x2, .f32⟩
  | 121 => ⟨S_, .f32⟩
  | 122 => ⟨S2048, .f32⟩
  | 123 => ⟨S_, .i32⟩
  | 124 => ⟨S2048x2, .i32⟩
  | 125 => ⟨S2048x2, .i1⟩
  | 126 => ⟨S2048x2, .f32⟩
  | 127 => ⟨S2048x2, .f32⟩
  | _ => ⟨S1x2048x2048, .f32⟩

abbrev hbmTy0_1 (i : Nat) : BufTy := match i % 128 with
  | 0 => ⟨S_, .f32⟩
  | 1 => ⟨S2048, .f32⟩
  | 2 => ⟨S_, .i32⟩
  | 3 => ⟨S2048x2, .i32⟩
  | 4 => ⟨S2048x2, .i1⟩
  | 5 => ⟨S2048x2, .f32⟩
  | 6 => ⟨S2048x2, .f32⟩
  | 7 => ⟨S_, .f32⟩
  | 8 => ⟨S2048, .f32⟩
  | 9 => ⟨S_, .i32⟩
  | 10 => ⟨S2048x2, .i32⟩
  | 11 => ⟨S2048x2, .i1⟩
  | 12 => ⟨S2048x2, .f32⟩
  | 13 => ⟨S2048x2, .f32⟩
  | 14 => ⟨S_, .f32⟩
  | 15 => ⟨S2048, .f32⟩
  | 16 => ⟨S2048x1, .f32⟩
  | 17 => ⟨S2048x1, .f32⟩
  | 18 => ⟨S2048x1, .f32⟩
  | 19 => ⟨S2048x1, .f32⟩
  | 20 => ⟨S2048x4, .f32⟩
  | 21 => ⟨S_, .f32⟩
  | 22 => ⟨S2048, .f32⟩
  | 23 => ⟨S2048x1, .f32⟩
  | 24 => ⟨S_, .f32⟩
  | 25 => ⟨S2048x4, .f32⟩
  | 26 => ⟨S2048x4, .i1⟩
  | 27 => ⟨S_, .f32⟩
  | 28 => ⟨S2048x4, .f32⟩
  | 29 => ⟨S2048x4, .f32⟩
  | 30 => ⟨S_, .f32⟩
  | 31 => ⟨S2048, .f32⟩
  | 32 => ⟨S_, .f32⟩
  | 33 => ⟨S2048, .f32⟩
  | 34 => ⟨S2048, .f32⟩
  | 35 => ⟨S2048x1, .f32⟩
  | 36 => ⟨S2048x4, .f32⟩
  | 37 => ⟨S2048x4, .f32⟩
  | 38 => ⟨S2048x4, .f32⟩
  | 39 => ⟨S_, .f32⟩
  | 40 => ⟨S2048, .f32⟩
  | 41 => ⟨S2048x1, .f32⟩
  | 42 => ⟨S2048x4, .f32⟩
  | 43 => ⟨S2048x4, .f32⟩
  | 44 => ⟨S1x2048x4, .f32⟩
  | 45 => ⟨S2048x4, .f32⟩
  | 46 => ⟨S4x2048, .f32⟩
  | 47 => ⟨S2048x2048, .f32⟩
  | 48 => ⟨S2048x2048, .f32⟩
  | 49 => ⟨S1x1024x2048, .f32⟩
  | 50 => ⟨S1024x2048, .f32⟩
  | 51 => ⟨S2048x1024, .f32⟩
  | 52 => ⟨S2048x1024, .f32⟩
  | 53 => ⟨S2048x1024, .f32⟩
  | 54 => ⟨S2048x1024, .f32⟩
  | 55 => ⟨S_, .f32⟩
  | 56 => ⟨S2048x1024, .f32⟩
  | 57 => ⟨S2048x1024, .f32⟩
  | 58 => ⟨S_, .f32⟩
  | 59 => ⟨S2048x1024, .f32⟩
  | 60 => ⟨S2048x1024, .f32⟩
  | 61 => ⟨S2048x1024, .f32⟩
  | 62 => ⟨S1x1024x2048, .f32⟩
  | 63 => ⟨S1024x2048, .f32⟩
  | 64 => ⟨S2048x1024, .f32⟩
  | 65 => ⟨S2048x1024, .f32⟩
  | 66 => ⟨S2048x1024, .f32⟩
  | 67 => ⟨S1x2048x1024, .f32⟩
  | 68 => ⟨S2048x1024, .f32⟩
  | 69 => ⟨S1024x2048, .f32⟩
  | 70 => ⟨S2048x2048, .f32⟩
  | 71 => ⟨S2048x2048, .f32⟩
  | 72 => ⟨S2048x2048, .f32⟩
  | 73 => ⟨S2048x2048, .f32⟩
  | 74 => ⟨S_, .i32⟩
  | 75 => ⟨S2048x2, .i32⟩
  | 76 => ⟨S2048x2, .i1⟩
  | 77 => ⟨S2048x2, .f32⟩
  | 78 => ⟨S2048x2, .f32⟩
  | 79 => ⟨S_, .f32⟩
  | 80 => ⟨S2048, .f32⟩
  | 81 => ⟨S_, .i32⟩
  | 82 => ⟨S2048x2, .i32⟩
  | 83 => ⟨S2048x2, .i1⟩
  | 84 => ⟨S2048x2, .f32⟩
  | 85 => ⟨S2048x2, .f32⟩
  | 86 => ⟨S_, .f32⟩
  | 87 => ⟨S2048, .f32⟩
  | 88 => ⟨S_, .i32⟩
  | 89 => ⟨S2048x2, .i32⟩
  | 90 => ⟨S2048x2, .i1⟩
  | 91 => ⟨S2048x2, .f32⟩
  | 92 => ⟨S2048x2, .f32⟩
  | 93 => ⟨S_, .f32⟩
  | 94 => ⟨S2048, .f32⟩
  | 95 => ⟨S_, .i32⟩
  | 96 => ⟨S2048x2, .i32⟩
  | 97 => ⟨S2048x2, .i1⟩
  | 98 => ⟨S2048x2, .f32⟩
  | 99 => ⟨S2048x2, .f32⟩
  | 100 => ⟨S_, .f32⟩
  | 101 => ⟨S2048, .f32⟩
  | 102 => ⟨S2048x1, .f32⟩
  | 103 => ⟨S2048x1, .f32⟩
  | 104 => ⟨S2048x1, .f32⟩
  | 105 => ⟨S2048x1, .f32⟩
  | 106 => ⟨S2048x4, .f32⟩
  | 107 => ⟨S_, .f32⟩
  | 108 => ⟨S2048, .f32⟩
  | 109 => ⟨S2048x1, .f32⟩
  | 110 => ⟨S_, .f32⟩
  | 111 => ⟨S2048x4, .f32⟩
  | 112 => ⟨S2048x4, .i1⟩
  | 113 => ⟨S_, .f32⟩
  | 114 => ⟨S2048x4, .f32⟩
  | 115 => ⟨S2048x4, .f32⟩
  | 116 => ⟨S_, .f32⟩
  | 117 => ⟨S2048, .f32⟩
  | 118 => ⟨S_, .f32⟩
  | 119 => ⟨S2048, .f32⟩
  | 120 => ⟨S2048, .f32⟩
  | 121 => ⟨S2048x1, .f32⟩
  | 122 => ⟨S2048x4, .f32⟩
  | 123 => ⟨S2048x4, .f32⟩
  | 124 => ⟨S2048x4, .f32⟩
  | 125 => ⟨S_, .f32⟩
  | 126 => ⟨S2048, .f32⟩
  | 127 => ⟨S2048x1, .f32⟩
  | _ => ⟨S1x2048x2048, .f32⟩

abbrev hbmTy0_2 (i : Nat) : BufTy := match i % 128 with
  | 0 => ⟨S2048x4, .f32⟩
  | 1 => ⟨S2048x4, .f32⟩
  | 2 => ⟨S1x2048x4, .f32⟩
  | 3 => ⟨S2048x4, .f32⟩
  | 4 => ⟨S4x2048, .f32⟩
  | 5 => ⟨S2048x2048, .f32⟩
  | 6 => ⟨S2048x2048, .f32⟩
  | 7 => ⟨S1x1024x2048, .f32⟩
  | 8 => ⟨S1024x2048, .f32⟩
  | 9 => ⟨S2048x1024, .f32⟩
  | 10 => ⟨S2048x1024, .f32⟩
  | 11 => ⟨S2048x1024, .f32⟩
  | 12 => ⟨S2048x1024, .f32⟩
  | 13 => ⟨S_, .f32⟩
  | 14 => ⟨S2048x1024, .f32⟩
  | 15 => ⟨S2048x1024, .f32⟩
  | 16 => ⟨S_, .f32⟩
  | 17 => ⟨S2048x1024, .f32⟩
  | 18 => ⟨S2048x1024, .f32⟩
  | 19 => ⟨S2048x1024, .f32⟩
  | 20 => ⟨S1x1024x2048, .f32⟩
  | 21 => ⟨S1024x2048, .f32⟩
  | 22 => ⟨S2048x1024, .f32⟩
  | 23 => ⟨S2048x1024, .f32⟩
  | 24 => ⟨S2048x1024, .f32⟩
  | 25 => ⟨S1x2048x1024, .f32⟩
  | 26 => ⟨S2048x1024, .f32⟩
  | 27 => ⟨S1024x2048, .f32⟩
  | 28 => ⟨S2048x2048, .f32⟩
  | 29 => ⟨S2048x2048, .f32⟩
  | 30 => ⟨S2048x2048, .f32⟩
  | 31 => ⟨S2048x2048, .f32⟩
  | 32 => ⟨S_, .i32⟩
  | 33 => ⟨S2048x2, .i32⟩
  | 34 => ⟨S2048x2, .i1⟩
  | 35 => ⟨S2048x2, .f32⟩
  | 36 => ⟨S2048x2, .f32⟩
  | 37 => ⟨S_, .f32⟩
  | 38 => ⟨S2048, .f32⟩
  | 39 => ⟨S_, .i32⟩
  | 40 => ⟨S2048x2, .i32⟩
  | 41 => ⟨S2048x2, .i1⟩
  | 42 => ⟨S2048x2, .f32⟩
  | 43 => ⟨S2048x2, .f32⟩
  | 44 => ⟨S_, .f32⟩
  | 45 => ⟨S2048, .f32⟩
  | 46 => ⟨S_, .i32⟩
  | 47 => ⟨S2048x2, .i32⟩
  | 48 => ⟨S2048x2, .i1⟩
  | 49 => ⟨S2048x2, .f32⟩
  | 50 => ⟨S2048x2, .f32⟩
  | 51 => ⟨S_, .f32⟩
  | 52 => ⟨S2048, .f32⟩
  | 53 => ⟨S_, .i32⟩
  | 54 => ⟨S2048x2, .i32⟩
  | 55 => ⟨S2048x2, .i1⟩
  | 56 => ⟨S2048x2, .f32⟩
  | 57 => ⟨S2048x2, .f32⟩
  | 58 => ⟨S_, .f32⟩
  | 59 => ⟨S2048, .f32⟩
  | 60 => ⟨S2048x1, .f32⟩
  | 61 => ⟨S2048x1, .f32⟩
  | 62 => ⟨S2048x1, .f32⟩
  | 63 => ⟨S2048x1, .f32⟩
  | 64 => ⟨S2048x4, .f32⟩
  | 65 => ⟨S_, .f32⟩
  | 66 => ⟨S2048, .f32⟩
  | 67 => ⟨S2048x1, .f32⟩
  | 68 => ⟨S_, .f32⟩
  | 69 => ⟨S2048x4, .f32⟩
  | 70 => ⟨S2048x4, .i1⟩
  | 71 => ⟨S_, .f32⟩
  | 72 => ⟨S2048x4, .f32⟩
  | 73 => ⟨S2048x4, .f32⟩
  | 74 => ⟨S_, .f32⟩
  | 75 => ⟨S2048, .f32⟩
  | 76 => ⟨S_, .f32⟩
  | 77 => ⟨S2048, .f32⟩
  | 78 => ⟨S2048, .f32⟩
  | 79 => ⟨S2048x1, .f32⟩
  | 80 => ⟨S2048x4, .f32⟩
  | 81 => ⟨S2048x4, .f32⟩
  | 82 => ⟨S2048x4, .f32⟩
  | 83 => ⟨S_, .f32⟩
  | 84 => ⟨S2048, .f32⟩
  | 85 => ⟨S2048x1, .f32⟩
  | 86 => ⟨S2048x4, .f32⟩
  | 87 => ⟨S2048x4, .f32⟩
  | 88 => ⟨S1x2048x4, .f32⟩
  | 89 => ⟨S2048x4, .f32⟩
  | 90 => ⟨S4x2048, .f32⟩
  | 91 => ⟨S2048x2048, .f32⟩
  | 92 => ⟨S2048x2048, .f32⟩
  | 93 => ⟨S1x1024x2048, .f32⟩
  | 94 => ⟨S1024x2048, .f32⟩
  | 95 => ⟨S2048x1024, .f32⟩
  | 96 => ⟨S2048x1024, .f32⟩
  | 97 => ⟨S2048x1024, .f32⟩
  | 98 => ⟨S2048x1024, .f32⟩
  | 99 => ⟨S_, .f32⟩
  | 100 => ⟨S2048x1024, .f32⟩
  | 101 => ⟨S2048x1024, .f32⟩
  | 102 => ⟨S_, .f32⟩
  | 103 => ⟨S2048x1024, .f32⟩
  | 104 => ⟨S2048x1024, .f32⟩
  | 105 => ⟨S2048x1024, .f32⟩
  | 106 => ⟨S1x1024x2048, .f32⟩
  | 107 => ⟨S1024x2048, .f32⟩
  | 108 => ⟨S2048x1024, .f32⟩
  | 109 => ⟨S2048x1024, .f32⟩
  | 110 => ⟨S2048x1024, .f32⟩
  | 111 => ⟨S1x2048x1024, .f32⟩
  | 112 => ⟨S2048x1024, .f32⟩
  | 113 => ⟨S1024x2048, .f32⟩
  | 114 => ⟨S2048x2048, .f32⟩
  | 115 => ⟨S2048x2048, .f32⟩
  | 116 => ⟨S2048x2048, .f32⟩
  | 117 => ⟨S2048x2048, .f32⟩
  | 118 => ⟨S1x2048x2048, .f32⟩
  | 119 => ⟨S2048x2048, .f32⟩
  | 120 => ⟨S1x2048x2048, .f32⟩
  | 121 => ⟨S1x2048x2048, .f32⟩
  | 122 => ⟨S1x2048x2048, .f32⟩
  | 123 => ⟨S_, .f32⟩
  | 124 => ⟨S1x2048x2048, .f32⟩
  | 125 => ⟨S1x2048x2048, .f32⟩
  | 126 => ⟨S_, .f32⟩
  | 127 => ⟨S1x2048x2048, .f32⟩
  | _ => ⟨S1x2048x2048, .f32⟩

abbrev hbmTy0_3 (i : Nat) : BufTy := match i % 128 with
  | 0 => ⟨S1x2048x2048, .f32⟩
  | 1 => ⟨S1x2048x2048, .f32⟩
  | 2 => ⟨S2048x2048, .f32⟩
  | 3 => ⟨S1x2048x2048, .f32⟩
  | 4 => ⟨S1x2048x2048, .f32⟩
  | 5 => ⟨S2048x2048, .f32⟩
  | 6 => ⟨S1x2048x2048, .f32⟩
  | 7 => ⟨S1x2048x2048, .f32⟩
  | _ => ⟨S1x2048x2048, .f32⟩

abbrev hbmTy (i : Nat) : BufTy := match i / 128 with
  | 0 => hbmTy0_0 i
  | 1 => hbmTy0_1 i
  | 2 => hbmTy0_2 i
  | 3 => hbmTy0_3 i
  | _ => ⟨S1x2048x2048, .f32⟩

abbrev bufTy : (tb : Table) → Fin (tcTables nBuf tb) → BufTy
  | .hbm, ⟨i, _⟩ => hbmTy i
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_values : Ref sig .tc := ⟨.hbm, 26, rfl⟩
abbrev main_indices : Ref sig .tc := ⟨.hbm, 27, rfl⟩
abbrev main_cst_2 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_c_8 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_9 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_10 : Ref sig .tc := ⟨.hbm, 63, rfl⟩
abbrev main_v40 : Ref sig .tc := ⟨.hbm, 64, rfl⟩
abbrev main_v41 : Ref sig .tc := ⟨.hbm, 65, rfl⟩
abbrev main_cst_11 : Ref sig .tc := ⟨.hbm, 66, rfl⟩
abbrev main_v42 : Ref sig .tc := ⟨.hbm, 67, rfl⟩
abbrev main_v43 : Ref sig .tc := ⟨.hbm, 68, rfl⟩
abbrev main_cst_12 : Ref sig .tc := ⟨.hbm, 69, rfl⟩
abbrev main_call0_v0 : Ref sig .tc := ⟨.hbm, 70, rfl⟩
abbrev main_v44 : Ref sig .tc := ⟨.hbm, 71, rfl⟩
abbrev main_cst_13 : Ref sig .tc := ⟨.hbm, 72, rfl⟩
abbrev main_v45 : Ref sig .tc := ⟨.hbm, 73, rfl⟩
abbrev main_cst_14 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_15 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_call1_v0 : Ref sig .tc := ⟨.hbm, 95, rfl⟩
abbrev main_call1_v1 : Ref sig .tc := ⟨.hbm, 96, rfl⟩
abbrev main_call1_cst : Ref sig .tc := ⟨.hbm, 97, rfl⟩
abbrev main_call1_v2 : Ref sig .tc := ⟨.hbm, 98, rfl⟩
abbrev main_call1_v3 : Ref sig .tc := ⟨.hbm, 99, rfl⟩
abbrev main_call1_cst_0 : Ref sig .tc := ⟨.hbm, 100, rfl⟩
abbrev main_call1_v4 : Ref sig .tc := ⟨.hbm, 101, rfl⟩
abbrev main_call1_v5 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_c_16 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_17 : Ref sig .tc := ⟨.hbm, 121, rfl⟩
abbrev main_v82 : Ref sig .tc := ⟨.hbm, 122, rfl⟩
abbrev main_c_18 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_19 : Ref sig .tc := ⟨.hbm, 128, rfl⟩
abbrev main_v87 : Ref sig .tc := ⟨.hbm, 129, rfl⟩
abbrev main_c_20 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_21 : Ref sig .tc := ⟨.hbm, 135, rfl⟩
abbrev main_v92 : Ref sig .tc := ⟨.hbm, 136, rfl⟩
abbrev main_c_22 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_23 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_24 : Ref sig .tc := ⟨.hbm, 149, rfl⟩
abbrev main_v103 : Ref sig .tc := ⟨.hbm, 150, rfl⟩
abbrev main_v104 : Ref sig .tc := ⟨.hbm, 151, rfl⟩
abbrev main_cst_25 : Ref sig .tc := ⟨.hbm, 152, rfl⟩
abbrev main_v105 : Ref sig .tc := ⟨.hbm, 153, rfl⟩
abbrev main_v106 : Ref sig .tc := ⟨.hbm, 154, rfl⟩
abbrev main_cst_26 : Ref sig .tc := ⟨.hbm, 155, rfl⟩
abbrev main_call2_v0 : Ref sig .tc := ⟨.hbm, 156, rfl⟩
abbrev main_v107 : Ref sig .tc := ⟨.hbm, 157, rfl⟩
abbrev main_cst_27 : Ref sig .tc := ⟨.hbm, 158, rfl⟩
abbrev main_v108 : Ref sig .tc := ⟨.hbm, 159, rfl⟩
abbrev main_cst_28 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_cst_29 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_call3_v0 : Ref sig .tc := ⟨.hbm, 181, rfl⟩
abbrev main_call3_v1 : Ref sig .tc := ⟨.hbm, 182, rfl⟩
abbrev main_call3_cst : Ref sig .tc := ⟨.hbm, 183, rfl⟩
abbrev main_call3_v2 : Ref sig .tc := ⟨.hbm, 184, rfl⟩
abbrev main_call3_v3 : Ref sig .tc := ⟨.hbm, 185, rfl⟩
abbrev main_call3_cst_0 : Ref sig .tc := ⟨.hbm, 186, rfl⟩
abbrev main_call3_v4 : Ref sig .tc := ⟨.hbm, 187, rfl⟩
abbrev main_call3_v5 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_c_30 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_cst_31 : Ref sig .tc := ⟨.hbm, 207, rfl⟩
abbrev main_v145 : Ref sig .tc := ⟨.hbm, 208, rfl⟩
abbrev main_c_32 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_cst_33 : Ref sig .tc := ⟨.hbm, 214, rfl⟩
abbrev main_v150 : Ref sig .tc := ⟨.hbm, 215, rfl⟩
abbrev main_c_34 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_cst_35 : Ref sig .tc := ⟨.hbm, 221, rfl⟩
abbrev main_v155 : Ref sig .tc := ⟨.hbm, 222, rfl⟩
abbrev main_c_36 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_cst_37 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_cst_38 : Ref sig .tc := ⟨.hbm, 235, rfl⟩
abbrev main_v166 : Ref sig .tc := ⟨.hbm, 236, rfl⟩
abbrev main_v167 : Ref sig .tc := ⟨.hbm, 237, rfl⟩
abbrev main_cst_39 : Ref sig .tc := ⟨.hbm, 238, rfl⟩
abbrev main_v168 : Ref sig .tc := ⟨.hbm, 239, rfl⟩
abbrev main_v169 : Ref sig .tc := ⟨.hbm, 240, rfl⟩
abbrev main_cst_40 : Ref sig .tc := ⟨.hbm, 241, rfl⟩
abbrev main_call4_v0 : Ref sig .tc := ⟨.hbm, 242, rfl⟩
abbrev main_v170 : Ref sig .tc := ⟨.hbm, 243, rfl⟩
abbrev main_cst_41 : Ref sig .tc := ⟨.hbm, 244, rfl⟩
abbrev main_v171 : Ref sig .tc := ⟨.hbm, 245, rfl⟩
abbrev main_cst_42 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_cst_43 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_call5_v0 : Ref sig .tc := ⟨.hbm, 267, rfl⟩
abbrev main_call5_v1 : Ref sig .tc := ⟨.hbm, 268, rfl⟩
abbrev main_call5_cst : Ref sig .tc := ⟨.hbm, 269, rfl⟩
abbrev main_call5_v2 : Ref sig .tc := ⟨.hbm, 270, rfl⟩
abbrev main_call5_v3 : Ref sig .tc := ⟨.hbm, 271, rfl⟩
abbrev main_call5_cst_0 : Ref sig .tc := ⟨.hbm, 272, rfl⟩
abbrev main_call5_v4 : Ref sig .tc := ⟨.hbm, 273, rfl⟩
abbrev main_call5_v5 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_v197 : Ref sig .tc := ⟨.hbm, 281, rfl⟩
abbrev main_v198 : Ref sig .tc := ⟨.hbm, 282, rfl⟩
abbrev main_v199 : Ref sig .tc := ⟨.hbm, 283, rfl⟩
abbrev main_v200 : Ref sig .tc := ⟨.hbm, 284, rfl⟩
abbrev main_v201 : Ref sig .tc := ⟨.hbm, 285, rfl⟩
abbrev main_v202 : Ref sig .tc := ⟨.hbm, 286, rfl⟩
abbrev main_v203 : Ref sig .tc := ⟨.hbm, 287, rfl⟩
abbrev main_c_44 : Ref sig .tc := ⟨.hbm, 288, rfl⟩
abbrev main_v204 : Ref sig .tc := ⟨.hbm, 289, rfl⟩
abbrev main_v205 : Ref sig .tc := ⟨.hbm, 290, rfl⟩
abbrev main_v206 : Ref sig .tc := ⟨.hbm, 291, rfl⟩
abbrev main_v207 : Ref sig .tc := ⟨.hbm, 292, rfl⟩
abbrev main_cst_45 : Ref sig .tc := ⟨.hbm, 293, rfl⟩
abbrev main_v208 : Ref sig .tc := ⟨.hbm, 294, rfl⟩
abbrev main_c_46 : Ref sig .tc := ⟨.hbm, 295, rfl⟩
abbrev main_v209 : Ref sig .tc := ⟨.hbm, 296, rfl⟩
abbrev main_v210 : Ref sig .tc := ⟨.hbm, 297, rfl⟩
abbrev main_v211 : Ref sig .tc := ⟨.hbm, 298, rfl⟩
abbrev main_v212 : Ref sig .tc := ⟨.hbm, 299, rfl⟩
abbrev main_cst_47 : Ref sig .tc := ⟨.hbm, 300, rfl⟩
abbrev main_v213 : Ref sig .tc := ⟨.hbm, 301, rfl⟩
abbrev main_c_48 : Ref sig .tc := ⟨.hbm, 302, rfl⟩
abbrev main_v214 : Ref sig .tc := ⟨.hbm, 303, rfl⟩
abbrev main_v215 : Ref sig .tc := ⟨.hbm, 304, rfl⟩
abbrev main_v216 : Ref sig .tc := ⟨.hbm, 305, rfl⟩
abbrev main_v217 : Ref sig .tc := ⟨.hbm, 306, rfl⟩
abbrev main_cst_49 : Ref sig .tc := ⟨.hbm, 307, rfl⟩
abbrev main_v218 : Ref sig .tc := ⟨.hbm, 308, rfl⟩
abbrev main_c_50 : Ref sig .tc := ⟨.hbm, 309, rfl⟩
abbrev main_v219 : Ref sig .tc := ⟨.hbm, 310, rfl⟩
abbrev main_v220 : Ref sig .tc := ⟨.hbm, 311, rfl⟩
abbrev main_v221 : Ref sig .tc := ⟨.hbm, 312, rfl⟩
abbrev main_v222 : Ref sig .tc := ⟨.hbm, 313, rfl⟩
abbrev main_cst_51 : Ref sig .tc := ⟨.hbm, 314, rfl⟩
abbrev main_v223 : Ref sig .tc := ⟨.hbm, 315, rfl⟩
abbrev main_v224 : Ref sig .tc := ⟨.hbm, 316, rfl⟩
abbrev main_v225 : Ref sig .tc := ⟨.hbm, 317, rfl⟩
abbrev main_v226 : Ref sig .tc := ⟨.hbm, 318, rfl⟩
abbrev main_v227 : Ref sig .tc := ⟨.hbm, 319, rfl⟩
abbrev main_v228 : Ref sig .tc := ⟨.hbm, 320, rfl⟩
abbrev main_cst_52 : Ref sig .tc := ⟨.hbm, 321, rfl⟩
abbrev main_v229 : Ref sig .tc := ⟨.hbm, 322, rfl⟩
abbrev main_v230 : Ref sig .tc := ⟨.hbm, 323, rfl⟩
abbrev main_cst_53 : Ref sig .tc := ⟨.hbm, 324, rfl⟩
abbrev main_v231 : Ref sig .tc := ⟨.hbm, 325, rfl⟩
abbrev main_v232 : Ref sig .tc := ⟨.hbm, 326, rfl⟩
abbrev main_cst_54 : Ref sig .tc := ⟨.hbm, 327, rfl⟩
abbrev main_call6_v0 : Ref sig .tc := ⟨.hbm, 328, rfl⟩
abbrev main_v233 : Ref sig .tc := ⟨.hbm, 329, rfl⟩
abbrev main_cst_55 : Ref sig .tc := ⟨.hbm, 330, rfl⟩
abbrev main_v234 : Ref sig .tc := ⟨.hbm, 331, rfl⟩
abbrev main_cst_56 : Ref sig .tc := ⟨.hbm, 332, rfl⟩
abbrev main_v235 : Ref sig .tc := ⟨.hbm, 333, rfl⟩
abbrev main_v236 : Ref sig .tc := ⟨.hbm, 334, rfl⟩
abbrev main_v237 : Ref sig .tc := ⟨.hbm, 335, rfl⟩
abbrev main_v238 : Ref sig .tc := ⟨.hbm, 336, rfl⟩
abbrev main_v239 : Ref sig .tc := ⟨.hbm, 337, rfl⟩
abbrev main_v240 : Ref sig .tc := ⟨.hbm, 338, rfl⟩
abbrev main_cst_57 : Ref sig .tc := ⟨.hbm, 339, rfl⟩
abbrev main_v241 : Ref sig .tc := ⟨.hbm, 340, rfl⟩
abbrev main_v242 : Ref sig .tc := ⟨.hbm, 341, rfl⟩
abbrev main_v243 : Ref sig .tc := ⟨.hbm, 342, rfl⟩
abbrev main_v244 : Ref sig .tc := ⟨.hbm, 343, rfl⟩
abbrev main_v245 : Ref sig .tc := ⟨.hbm, 344, rfl⟩
abbrev main_v246 : Ref sig .tc := ⟨.hbm, 345, rfl⟩
abbrev main_v247 : Ref sig .tc := ⟨.hbm, 346, rfl⟩
abbrev main_v248 : Ref sig .tc := ⟨.hbm, 347, rfl⟩
abbrev main_v249 : Ref sig .tc := ⟨.hbm, 348, rfl⟩
abbrev main_v250 : Ref sig .tc := ⟨.hbm, 349, rfl⟩
abbrev main_v251 : Ref sig .tc := ⟨.hbm, 350, rfl⟩
abbrev main_v252 : Ref sig .tc := ⟨.hbm, 351, rfl⟩
abbrev main_v253 : Ref sig .tc := ⟨.hbm, 352, rfl⟩
abbrev main_call7_v0 : Ref sig .tc := ⟨.hbm, 353, rfl⟩
abbrev main_call7_v1 : Ref sig .tc := ⟨.hbm, 354, rfl⟩
abbrev main_call7_cst : Ref sig .tc := ⟨.hbm, 355, rfl⟩
abbrev main_call7_v2 : Ref sig .tc := ⟨.hbm, 356, rfl⟩
abbrev main_call7_v3 : Ref sig .tc := ⟨.hbm, 357, rfl⟩
abbrev main_call7_cst_0 : Ref sig .tc := ⟨.hbm, 358, rfl⟩
abbrev main_call7_v4 : Ref sig .tc := ⟨.hbm, 359, rfl⟩
abbrev main_call7_v5 : Ref sig .tc := ⟨.hbm, 360, rfl⟩
abbrev main_v254 : Ref sig .tc := ⟨.hbm, 361, rfl⟩
abbrev main_v255 : Ref sig .tc := ⟨.hbm, 362, rfl⟩
abbrev main_v256 : Ref sig .tc := ⟨.hbm, 363, rfl⟩
abbrev main_v257 : Ref sig .tc := ⟨.hbm, 364, rfl⟩
abbrev main_v258 : Ref sig .tc := ⟨.hbm, 365, rfl⟩
abbrev main_v259 : Ref sig .tc := ⟨.hbm, 366, rfl⟩
abbrev main_v260 : Ref sig .tc := ⟨.hbm, 367, rfl⟩
abbrev main_v261 : Ref sig .tc := ⟨.hbm, 368, rfl⟩
abbrev main_v262 : Ref sig .tc := ⟨.hbm, 369, rfl⟩
abbrev main_v263 : Ref sig .tc := ⟨.hbm, 370, rfl⟩
abbrev main_v264 : Ref sig .tc := ⟨.hbm, 371, rfl⟩
abbrev main_v265 : Ref sig .tc := ⟨.hbm, 372, rfl⟩
abbrev main_v266 : Ref sig .tc := ⟨.hbm, 373, rfl⟩
abbrev main_v267 : Ref sig .tc := ⟨.hbm, 374, rfl⟩
abbrev main_v268 : Ref sig .tc := ⟨.hbm, 375, rfl⟩
abbrev main_v269 : Ref sig .tc := ⟨.hbm, 376, rfl⟩
abbrev main_call8_v0 : Ref sig .tc := ⟨.hbm, 377, rfl⟩
abbrev main_call8_v1 : Ref sig .tc := ⟨.hbm, 378, rfl⟩
abbrev main_call8_cst : Ref sig .tc := ⟨.hbm, 379, rfl⟩
abbrev main_call8_v2 : Ref sig .tc := ⟨.hbm, 380, rfl⟩
abbrev main_call8_v3 : Ref sig .tc := ⟨.hbm, 381, rfl⟩
abbrev main_call8_cst_0 : Ref sig .tc := ⟨.hbm, 382, rfl⟩
abbrev main_call8_v4 : Ref sig .tc := ⟨.hbm, 383, rfl⟩
abbrev main_call8_v5 : Ref sig .tc := ⟨.hbm, 384, rfl⟩
abbrev main_v270 : Ref sig .tc := ⟨.hbm, 385, rfl⟩
abbrev main_v271 : Ref sig .tc := ⟨.hbm, 386, rfl⟩
abbrev main_v272 : Ref sig .tc := ⟨.hbm, 387, rfl⟩
abbrev main_v273 : Ref sig .tc := ⟨.hbm, 388, rfl⟩
abbrev main_v274 : Ref sig .tc := ⟨.hbm, 389, rfl⟩
abbrev main_v275 : Ref sig .tc := ⟨.hbm, 390, rfl⟩
abbrev main_v276 : Ref sig .tc := ⟨.hbm, 391, rfl⟩

abbrev nD : Nat := 1
abbrev τ : Topo := Topo.v7x

variable {F : FTy → Type} [FloatOps F]
-- ==== Proof.Route.lean ====
/- Region 0, the routing kernel: what its body leaves at a block of 512 rows, and its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The hidden-states window holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The gate window holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x2048 := Rect.unit (s := S512x2048) ![0, 0] S512x2048.size inb_S512x2048_S512x2048_0_0
abbrev r0_1 : Rect S16x2048 := Rect.unit (s := S16x2048) ![0, 0] S16x2048.size inb_S16x2048_S16x2048_0_0
abbrev r0_2 : Rect S4x512x32 := Rect.unit (s := S4x512x32) ![0, 0, 0] S1x512x32.size inb_S4x512x32_S1x512x32_0_0_0
abbrev r0_3 : Rect S4x512x32 := Rect.unit (s := S4x512x32) ![1, 0, 0] S1x512x32.size inb_S4x512x32_S1x512x32_1_0_0
abbrev r0_4 : Rect S4x512x32 := Rect.unit (s := S4x512x32) ![2, 0, 0] S1x512x32.size inb_S4x512x32_S1x512x32_2_0_0
abbrev r0_5 : Rect S4x512x32 := Rect.unit (s := S4x512x32) ![3, 0, 0] S1x512x32.size inb_S4x512x32_S1x512x32_3_0_0

/-- The column numbers 0..15 of a row of probabilities. -/
def k0_pay21 (x0 : Vec F S512x2048 .f32) (x1 : Vec F S16x2048 .f32) : IVec S512x16 32 :=
  iota .tc S512x16 32 [1] iota_S512x16_d1_w32 -- `v15`
/-- The softmax probabilities of the block's rows. -/
def k0_pay22 (x0 : Vec F S512x2048 .f32) (x1 : Vec F S16x2048 .f32) : FVec F S512x16 .f32 :=
  k0_pay4 (View.ld x0 r0_0) (View.ld x1 r0_1) -- `v14`
/-- Where the chosen experts are. -/
def k0_pay23 (x0 : Vec F S512x2048 .f32) (x1 : Vec F S16x2048 .f32) : IVec S512x16 1 :=
  k0_pay5 (View.ld x0 r0_0) (View.ld x1 r0_1) -- `v38`
/-- The zeros that fill the plane's last fifteen columns. -/
def k0_pay24 (x0 : Vec F S512x2048 .f32) (x1 : Vec F S16x2048 .f32) : FVec F S512x15 .f32 :=
  k0_pay6 (F := F) -- `v39`

/-- The selection planes the body leaves: four stores, one plane per group, last first. -/
def out0_2 (x0 : Vec F S512x2048 .f32) (x1 : Vec F S16x2048 .f32) : Vec F S4x512x32 .f32 :=
  View.canon [⟨r0_5, k0_pay1 (k0_pay22 x0 x1) (k0_pay23 x0 x1) (k0_pay24 x0 x1) (k0_pay20 (k0_pay21 x0 x1))⟩,
    ⟨r0_4, k0_pay19 (k0_pay22 x0 x1) (k0_pay23 x0 x1) (k0_pay24 x0 x1) (k0_pay17 (k0_pay21 x0 x1)) (k0_pay18 (k0_pay22 x0 x1) (k0_pay21 x0 x1) (k0_pay23 x0 x1))⟩,
    ⟨r0_3, k0_pay16 (k0_pay24 x0 x1) (k0_pay12 (k0_pay21 x0 x1)) (k0_pay13 (k0_pay22 x0 x1) (k0_pay21 x0 x1) (k0_pay23 x0 x1)) (k0_pay14 (k0_pay22 x0 x1) (k0_pay21 x0 x1) (k0_pay23 x0 x1)) (k0_pay15 (k0_pay22 x0 x1) (k0_pay21 x0 x1) (k0_pay23 x0 x1))⟩,
    ⟨r0_2, k0_pay11 (k0_pay24 x0 x1) (k0_pay8 (k0_pay22 x0 x1) (k0_pay21 x0 x1) (k0_pay23 x0 x1) 4#32) (k0_pay9 (k0_pay22 x0 x1) (k0_pay21 x0 x1) (k0_pay23 x0 x1) 4#32) (k0_pay10 (k0_pay22 x0 x1) (k0_pay21 x0 x1) (k0_pay23 x0 x1) 4#32)⟩]

/-- The four planes cover the buffer. -/
theorem cover0_2 (p0 : Vec F S1x512x32 .f32) (p1 : Vec F S1x512x32 .f32) (p2 : Vec F S1x512x32 .f32) (p3 : Vec F S1x512x32 .f32) (y : S4x512x32.Idx) :
    ∃ pc ∈ ([⟨r0_5, p0⟩, ⟨r0_4, p1⟩, ⟨r0_3, p2⟩, ⟨r0_2, p3⟩] : List (View.Piece (Elt F) S4x512x32 .f32)), y ∈ pc.1.set :=
  View.cover_of_tiled [⟨r0_5, p0⟩, ⟨r0_4, p1⟩, ⟨r0_3, p2⟩, ⟨r0_2, p3⟩] S1x512x32.size (by rfl) y

/-- The narrowed hidden states the body leaves. -/
def out0_3 (x0 : Vec F S512x2048 .f32) (x1 : Vec F S16x2048 .f32) : Vec F S512x2048 .bf16 :=
  View.canon [⟨r0_0, k0_pay3 (View.ld x0 r0_0)⟩]

/-- The one store covers the buffer. -/
theorem cover0_3 (p0 : Vec F S512x2048 .bf16) (y : S512x2048.Idx) :
    ∃ pc ∈ ([⟨r0_0, p0⟩] : List (View.Piece (Elt F) S512x2048 .bf16)), y ∈ pc.1.set :=
  View.cover_of_tiled [⟨r0_0, p0⟩] S512x2048.size (by rfl) y

set_option maxHeartbeats 1000000 in
/-- The routing body, from its inputs' contents, leaves the planes and the narrowed rows stated above. -/
theorem sound_kernel0 (c : Dev nD) (E : Set ℕ) (i : grid0.Coords) (arg1 : Memref sig .tc .vmem S512x2048 .f32) (harg1 : arg1.IsWhole) (arg2 : Memref sig .tc .vmem S16x2048 .f32) (harg2 : arg2.IsWhole) (arg3 : Memref sig .tc .vmem S4x512x32 .f32) (harg3 : arg3.IsWhole) (arg4 : Memref sig .tc .vmem S512x2048 .bf16) (harg4 : arg4.IsWhole)
    (x0 : Vec F S512x2048 .f32) (x1 : Vec F S16x2048 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__routing_kernel i arg1 harg1 arg2 harg2 arg3 harg3 arg4 harg4) K := by
  simp only [cc0__routing_kernel_eq_skeleton]; unfold cc0__routing_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _ _ _ _)).trans ?_
    rfl
  iexists _; isplitr
  swap; · iexact H3
  ipureintro
  refine (View.read_writes_eq_canon _ _ _ (cover0_3 _)).trans ?_
  rfl

/-- The routing pipeline's proof data at entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- Its arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- What the body finds in its inputs. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at a point. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body returns at a point. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row is the body. -/
theorem defs₀_row0 (t : Fin cfg0.N) :
    defs₀ (F := F) .tc cfg0.body (cfg0.bodyArgs t (cfg0.slots t)) = bodyAt0 t := by
  unfold defs₀; rw [Defs.onTc_tc]

/-- The routing region's body obligation. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Moe
-- ==== Proof.Halves.lean ====
/- The rows of a 2048-row array the bodies read and write: all of it, its first half, its second half. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rAll : Rect S2048x2048 := Rect.unit (s := S2048x2048) ![0, 0] S2048x2048.size inb_S2048x2048_S2048x2048_0_0
abbrev rLo : Rect S2048x2048 := Rect.unit (s := S2048x2048) ![0, 0] S1024x2048.size inb_S2048x2048_S1024x2048_0_0
abbrev rHi : Rect S2048x2048 := Rect.unit (s := S2048x2048) ![1024, 0] S1024x2048.size inb_S2048x2048_S1024x2048_1024_0

/-- Offsets zero on both axes. -/
theorem off2 : (![0, 0] : Fin 2 → ℕ) = fun _ => 0 := funext fun a => by fin_cases a <;> rfl

variable {e : EltTy}

/-- The two halves cover the array. -/
theorem cover_halves (p q : Vec F S1024x2048 e) (y : S2048x2048.Idx) :
    ∃ pc ∈ ([⟨rHi, p⟩, ⟨rLo, q⟩] : List (View.Piece (Elt F) S2048x2048 e)), y ∈ pc.1.set :=
  View.cover_of_tiled [⟨rHi, p⟩, ⟨rLo, q⟩] S1024x2048.size (by rfl) y

/-- The two halves are apart. -/
theorem halves_disjoint : Disjoint rLo.set rHi.set :=
  Rect.unit_disjoint 0 (Or.inl (by decide))

/-- A store over the whole array leaves its payload. -/
theorem canon_all (p : Vec F S2048x2048 e) : View.canon [(⟨rAll, p⟩ : View.Piece (Elt F) S2048x2048 e)] = p :=
  View.canon_unit_zero off2 _ p

/-- That store covers the array. -/
theorem cover_all (p : Vec F S2048x2048 e) (y : S2048x2048.Idx) :
    ∃ pc ∈ ([⟨rAll, p⟩] : List (View.Piece (Elt F) S2048x2048 e)), y ∈ pc.1.set :=
  View.cover_of_tiled [⟨rAll, p⟩] S2048x2048.size (by rfl) y

/-- A load of the whole array is the array. -/
theorem ld_all (p : Vec F S2048x2048 e) : View.ld p rAll = p := View.ld_unit_zero off2 _ p

section
variable {κ : Kind} {sp : Space} (v : View sig κ sp S2048x2048 e)

/-- The first half, read back after a store over the whole array, is the payload's first half. -/
theorem lo_of_all (p : Vec F S2048x2048 e) : v.readCov (Val := Elt F) [⟨rAll, p⟩] rLo.toLoadRect = View.ld p rLo := by
  rw [View.readCov_eq_canon', canon_all]

/-- The second half, read back after that store, is the payload's second half. -/
theorem hi_of_all (p : Vec F S2048x2048 e) : v.readCov (Val := Elt F) [⟨rAll, p⟩] rHi.toLoadRect = View.ld p rHi := by
  rw [View.readCov_eq_canon', canon_all]

/-- The second half, read back after that store and one over the first half, is the payload's second half. -/
theorem hi_of_lo_all (p : Vec F S2048x2048 e) (q : Vec F S1024x2048 e) :
    v.readCov (Val := Elt F) [⟨rLo, q⟩, ⟨rAll, p⟩] rHi.toLoadRect = View.ld p rHi := by
  have h := View.readCov_cons_of_disjoint v (⟨rLo, q⟩ : View.Piece (Elt F) S2048x2048 e) [⟨rAll, p⟩] rHi.toLoadRect halves_disjoint
  rw [hi_of_all] at h
  exact h

/-- Stores over both halves leave those. -/
theorem read_two (f : v.ty.Contents (Elt F)) (p q : Vec F S1024x2048 e) :
    v.read (Elt F) (v.writes (Elt F) f [⟨rHi, p⟩, ⟨rLo, q⟩]) = View.canon [⟨rHi, p⟩, ⟨rLo, q⟩] :=
  View.read_writes_eq_canon v f ([⟨rHi, p⟩, ⟨rLo, q⟩] : List (View.Piece (Elt F) S2048x2048 e)) (fun y => cover_halves p q y)

/-- Stores over both halves leave those, whatever was stored before. -/
theorem read_halves (f : v.ty.Contents (Elt F)) (p q : Vec F S1024x2048 e) (w : Vec F S2048x2048 e) :
    v.read (Elt F) (v.writes (Elt F) f [⟨rHi, p⟩, ⟨rLo, q⟩, ⟨rAll, w⟩]) = View.canon [⟨rHi, p⟩, ⟨rLo, q⟩] := by
  rw [show ([⟨rHi, p⟩, ⟨rLo, q⟩, ⟨rAll, w⟩] : List (View.Piece (Elt F) S2048x2048 e)) = [⟨rHi, p⟩, ⟨rLo, q⟩] ++ [⟨rAll, w⟩] from rfl,
    View.writes_append]
  exact read_two v _ p q
end

end Cert.KernelIdeal.Moe
-- ==== Proof.Routed.lean ====
/- Region 1, the routed experts: what its body leaves in the accumulated output and in the carried scratch. -/
module

public import proofs.«01_k».proof.Proof.Halves
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window holds its block at every point: fetched it is the block, unfetched the block's index has not moved. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! The parts of the blocks the body reads. -/

abbrev rSel : Rect S1x2048x32 := Rect.unit (s := S1x2048x32) ![0, 0, 0] S1x2048x16.size inb_S1x2048x32_S1x2048x16_0_0_0
abbrev rSLo : Rect S1x2048x32 := Rect.unit (s := S1x2048x32) ![0, 0, 16] S1x1024x1.size inb_S1x2048x32_S1x1024x1_0_0_16
abbrev rSHi : Rect S1x2048x32 := Rect.unit (s := S1x2048x32) ![0, 1024, 16] S1x1024x1.size inb_S1x2048x32_S1x1024x1_0_1024_16
abbrev rM : Rect S2048x16 := Rect.unit (s := S2048x16) ![0, 0] S2048x16.size inb_S2048x16_S2048x16_0_0
abbrev rG : Rect S1x256x2048 := Rect.unit (s := S1x256x2048) ![0, 0, 0] S1x256x2048.size inb_S1x256x2048_S1x256x2048_0_0_0
abbrev rD3 : Rect S1x2048x256 := Rect.unit (s := S1x2048x256) ![0, 0, 0] S1x2048x256.size inb_S1x2048x256_S1x2048x256_0_0_0

/-- The group's modulated hidden states, which the body keeps in the scratch over the group's four points. -/
def rtScr (x0 : Vec F S2048x2048 .bf16) (x1 : Vec F S1x2048x32 .f32) (x2 : Vec F S2048x16 .f32) : Vec F S2048x2048 .bf16 :=
  k1_pay4 (View.ld x1 rSel) (View.ld x2 rM) (View.ld x0 rAll)

/-- What a point leaves in the output, from the scratch `scr` and the running output `acc`: its two halves in turn. -/
def rtOut (x1 : Vec F S1x2048x32 .f32) (x3 : Vec F S1x256x2048 .f32) (x4 : Vec F S1x256x2048 .f32) (x5 : Vec F S1x2048x256 .f32)
    (scr : Vec F S2048x2048 .bf16) (acc : Vec F S2048x2048 .f32) : Vec F S2048x2048 .f32 :=
  View.canon [⟨rHi, k1_pay2 (k1_pay5 (View.ld x3 rG)) (k1_pay6 (View.ld x4 rG)) (k1_pay7 (View.ld x5 rD3)) (View.ld scr rHi) (View.ld x1 rSHi) (View.ld acc rHi)⟩,
    ⟨rLo, k1_pay1 (k1_pay7 (View.ld x5 rD3)) (k1_pay8 (View.ld x3 rG) (View.ld x4 rG) (View.ld scr rLo)) (View.ld x1 rSLo) (View.ld acc rLo)⟩]

/-- Whether the point is the first one, from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (fun t => by
    have ht : t.val < 16 := Nat.lt_of_lt_of_eq t.isLt N_1
    have e0 : (grid1.coords t 0).val = t.val / 1 % 16 := Pipeline.Grid.coords_val t 0 (by decide) rfl
    simp only [cond1_0, e0]
    word_cmp
   : ∀ t : Fin grid1.N, cond1_0 (grid1.coords t) ↔ t.val = 0)

/-- Whether the point is a group's first, from the grid coordinates. -/
abbrev cond1_1 (i : grid1.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 (i 0).val) (Scalar.select (Scalar.cmpi .eq 4#32 0#32) 1#32 4#32)) 0#32)) (Scalar.addi (Scalar.remsi (BitVec.ofNat 32 (i 0).val) (Scalar.select (Scalar.cmpi .eq 4#32 0#32) 1#32 4#32)) (Scalar.select (Scalar.cmpi .eq 4#32 0#32) 1#32 4#32)) (Scalar.remsi (BitVec.ofNat 32 (i 0).val) (Scalar.select (Scalar.cmpi .eq 4#32 0#32) 1#32 4#32))) 0#32)) 0#32) = 1#1
/-- It holds at every fourth point. -/
theorem hcond1_1 : ∀ t : Fin cfg1.N, cond1_1 (grid1.coords t) ↔ t.val % 4 = 0 :=
  (by decide +kernel : ∀ t : Fin grid1.N, cond1_1 (grid1.coords t) ↔ t.val % 4 = 0)

set_option maxHeartbeats 1000000 in
/-- At the first point the body zeroes the output, fills the scratch and adds the point. -/
theorem routed_runA (c : Dev nD) (E : Set ℕ) (i : grid1.Coords) (arg1 : Memref sig .tc .vmem S2048x2048 .bf16) (harg1 : arg1.IsWhole) (arg2 : Memref sig .tc .vmem S1x2048x32 .f32) (harg2 : arg2.IsWhole) (arg3 : Memref sig .tc .vmem S2048x16 .f32) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x2048x256 .f32) (harg6 : arg6.IsWhole) (arg7 : Memref sig .tc .vmem S2048x2048 .f32) (harg7 : arg7.IsWhole) (arg8 : Memref sig .tc .vmem S2048x2048 .bf16) (harg8 : arg8.IsWhole) (hc0 : cond1_0 i) (hc1 : cond1_1 i)
    (x0 : Vec F S2048x2048 .bf16) (x1 : Vec F S1x2048x32 .f32) (x2 : Vec F S2048x16 .f32) (x3 : Vec F S1x256x2048 .f32) (x4 : Vec F S1x256x2048 .f32) (x5 : Vec F S1x2048x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (rtOut x1 x3 x4 x5 (rtScr x0 x1 x2) (k1_pay3 (F := F))) ∗ owns (c : Thread nD τ) arg8 fullShare (rtScr x0 x1 x2)) -∗ K ⟨⟩))
      ⊢ wp frame (wpE (defs₀ (F := F)) Variants.none c none) E (cc1__routed_kernel i arg1 harg1 arg2 harg2 arg3 harg3 arg4 harg4 arg5 harg5 arg6 harg6 arg7 harg7 arg8 harg8) K := by
  simp only [cc1__routed_kernel_eq_skeleton]; unfold cc1__routed_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    unfold routed_runA.sl.r routed_runA.sl.r_1 routed_runA.sl.r_2 routed_runA.sl.v41 routed_runA.sl.v51 routed_runA.sl.H6_2 routed_runA.sl.r_3 routed_runA.sl.v35 routed_runA.sl.v25 routed_runA.sl.H7_1 routed_runA.sl.H6_1 routed_runA.sl.r_2
    refine (read_halves _ _ _ _ _).trans ?_
    unfold rtOut
    rw [hi_of_lo_all, lo_of_all, lo_of_all, hi_of_all]
    unfold rtScr
    simp only [View.readAt_eq_ld, hf0, hf1, hf2, hf3, hf4, hf5]
  iexists _; isplitr
  swap; · iexact H7
  ipureintro
  unfold routed_runA.sl.H7_1 rtScr
  rw [View.read_writes_eq_canon _ _ _ (cover_all _), canon_all]
  simp only [View.readAt_eq_ld, hf0, hf1, hf2]

set_option maxHeartbeats 1000000 in
/-- Inside a group the body adds the point, from the scratch as it stands. -/
theorem routed_runB (c : Dev nD) (E : Set ℕ) (i : grid1.Coords) (arg1 : Memref sig .tc .vmem S2048x2048 .bf16) (harg1 : arg1.IsWhole) (arg2 : Memref sig .tc .vmem S1x2048x32 .f32) (harg2 : arg2.IsWhole) (arg3 : Memref sig .tc .vmem S2048x16 .f32) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x2048x256 .f32) (harg6 : arg6.IsWhole) (arg7 : Memref sig .tc .vmem S2048x2048 .f32) (harg7 : arg7.IsWhole) (arg8 : Memref sig .tc .vmem S2048x2048 .bf16) (harg8 : arg8.IsWhole) (hc0 : ¬cond1_0 i) (hc1 : ¬cond1_1 i)
    (x0 : Vec F S2048x2048 .bf16) (x1 : Vec F S1x2048x32 .f32) (x2 : Vec F S2048x16 .f32) (x3 : Vec F S1x256x2048 .f32) (x4 : Vec F S1x256x2048 .f32) (x5 : Vec F S1x2048x256 .f32) (acc : Vec F S2048x2048 .f32) (scr : Vec F S2048x2048 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare acc ∗ owns (c : Thread nD τ) arg8 fullShare scr
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (rtOut x1 x3 x4 x5 scr acc) ∗ owns (c : Thread nD τ) arg8 fullShare scr) -∗ K ⟨⟩))
      ⊢ wp frame (wpE (defs₀ (F := F)) Variants.none c none) E (cc1__routed_kernel i arg1 harg1 arg2 harg2 arg3 harg3 arg4 harg4 arg5 harg5 arg6 harg6 arg7 harg7 arg8 harg8) K := by
  simp only [cc1__routed_kernel_eq_skeleton]; unfold cc1__routed_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    refine (read_two _ _ _ _).trans ?_
    unfold routed_runB.sl.r routed_runB.sl.r_1 routed_runB.sl.r_2 routed_runB.sl.r_3 routed_runB.sl.v51 rtOut
    simp only [View.readAt_eq_ld, hf0, hf1, hf2, hf3, hf4, hf5, hf6, hf7]
  iexists _; isplitr
  swap; · iexact H7
  ipureintro
  exact harg8.read_unread _

set_option maxHeartbeats 1000000 in
/-- At a later group's first point the body fills the scratch anew and adds the point. -/
theorem routed_runC (c : Dev nD) (E : Set ℕ) (i : grid1.Coords) (arg1 : Memref sig .tc .vmem S2048x2048 .bf16) (harg1 : arg1.IsWhole) (arg2 : Memref sig .tc .vmem S1x2048x32 .f32) (harg2 : arg2.IsWhole) (arg3 : Memref sig .tc .vmem S2048x16 .f32) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x2048x256 .f32) (harg6 : arg6.IsWhole) (arg7 : Memref sig .tc .vmem S2048x2048 .f32) (harg7 : arg7.IsWhole) (arg8 : Memref sig .tc .vmem S2048x2048 .bf16) (harg8 : arg8.IsWhole) (hc0 : ¬cond1_0 i) (hc1 : cond1_1 i)
    (x0 : Vec F S2048x2048 .bf16) (x1 : Vec F S1x2048x32 .f32) (x2 : Vec F S2048x16 .f32) (x3 : Vec F S1x256x2048 .f32) (x4 : Vec F S1x256x2048 .f32) (x5 : Vec F S1x2048x256 .f32) (acc : Vec F S2048x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare acc ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (rtOut x1 x3 x4 x5 (rtScr x0 x1 x2) acc) ∗ owns (c : Thread nD τ) arg8 fullShare (rtScr x0 x1 x2)) -∗ K ⟨⟩))
      ⊢ wp frame (wpE (defs₀ (F := F)) Variants.none c none) E (cc1__routed_kernel i arg1 harg1 arg2 harg2 arg3 harg3 arg4 harg4 arg5 harg5 arg6 harg6 arg7 harg7 arg8 harg8) K := by
  simp only [cc1__routed_kernel_eq_skeleton]; unfold cc1__routed_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    refine (read_two _ _ _ _).trans ?_
    unfold routed_runC.sl.r routed_runC.sl.r_1 routed_runC.sl.r_2 routed_runC.sl.r_3 routed_runC.sl.v41 routed_runC.sl.v51 routed_runC.sl.v25 routed_runC.sl.H7_1 rtOut
    rw [lo_of_all, hi_of_all]
    unfold rtScr
    simp only [View.readAt_eq_ld, hf0, hf1, hf2, hf3, hf4, hf5, hf6]
  iexists _; isplitr
  swap; · iexact H7
  ipureintro
  unfold routed_runC.sl.H7_1 rtScr
  rw [View.read_writes_eq_canon _ _ _ (cover_all _), canon_all]
  simp only [View.readAt_eq_ld, hf0, hf1, hf2]

/-- What the scratch holds after point `n`: its group's modulated hidden states. -/
def scrAt (c : Dev nD) : (n : ℕ) → n < cfg1.N → Vec F S2048x2048 .bf16
  | 0, hn => rtScr (iblk1 V c 0 ⟨0, hn⟩) (iblk1 V c 1 ⟨0, hn⟩) (iblk1 V c 2 ⟨0, hn⟩)
  | n + 1, hn =>
    if (n + 1) % 4 = 0 then rtScr (iblk1 V c 0 ⟨n + 1, hn⟩) (iblk1 V c 1 ⟨n + 1, hn⟩) (iblk1 V c 2 ⟨n + 1, hn⟩)
    else scrAt c n (Nat.lt_of_succ_lt hn)

theorem scrAt_new (c : Dev nD) (t : Fin cfg1.N) (h1 : t.val % 4 = 0) :
    scrAt V c t.val t.isLt = rtScr (iblk1 V c 0 t) (iblk1 V c 1 t) (iblk1 V c 2 t) := by
  obtain ⟨n, hn⟩ := t
  cases n with
  | zero => rfl
  | succ n => exact if_pos h1

theorem scrAt_old (c : Dev nD) (t : Fin cfg1.N) (h1 : ¬t.val % 4 = 0) :
    scrAt V c t.val t.isLt = scrAt V c (t.val - 1) (Nat.lt_of_le_of_lt (Nat.sub_le _ _) t.isLt) := by
  obtain ⟨n, hn⟩ := t
  cases n with
  | zero => exact absurd rfl h1
  | succ n => exact if_neg h1

/-- What the output holds after point `n`: the points' additions so far, from zero. -/
def outsAt1 (c : Dev nD) : (n : ℕ) → n < cfg1.N → Vec F S2048x2048 .f32
  | 0, hn => rtOut (iblk1 V c 1 ⟨0, hn⟩) (iblk1 V c 3 ⟨0, hn⟩) (iblk1 V c 4 ⟨0, hn⟩) (iblk1 V c 5 ⟨0, hn⟩) (scrAt V c 0 hn) (k1_pay3 (F := F))
  | n + 1, hn => rtOut (iblk1 V c 1 ⟨n + 1, hn⟩) (iblk1 V c 3 ⟨n + 1, hn⟩) (iblk1 V c 4 ⟨n + 1, hn⟩) (iblk1 V c 5 ⟨n + 1, hn⟩) (scrAt V c (n + 1) hn) (outsAt1 c n (Nat.lt_of_succ_lt hn))

theorem outsAt1_zero (c : Dev nD) (t : Fin cfg1.N) (h0 : t.val = 0) :
    outsAt1 V c t.val t.isLt = rtOut (iblk1 V c 1 t) (iblk1 V c 3 t) (iblk1 V c 4 t) (iblk1 V c 5 t) (scrAt V c t.val t.isLt) (k1_pay3 (F := F)) := by
  obtain ⟨n, hn⟩ := t
  obtain rfl : n = 0 := h0
  rfl

theorem outsAt1_succ (c : Dev nD) (t : Fin cfg1.N) (h0 : ¬t.val = 0) :
    outsAt1 V c t.val t.isLt = rtOut (iblk1 V c 1 t) (iblk1 V c 3 t) (iblk1 V c 4 t) (iblk1 V c 5 t) (scrAt V c t.val t.isLt) (outsAt1 V c (t.val - 1) (Nat.lt_of_le_of_lt (Nat.sub_le _ _) t.isLt)) := by
  obtain ⟨n, hn⟩ := t
  cases n with
  | zero => exact absurd rfl h0
  | succ n => rfl

/-! The scratch, and the other buffers the launch lends this region without its touching them. -/

abbrev scM : Memref sig .tc .vmem S2048x2048 .bf16 := Memref.whole cc1_scratch0

/-- The other two regions' staging buffers, at anything. -/
def others1 (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)) ∗ ((∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f)))

/-- What the scratch holds before position `n`: anything at first, then what the point before left. -/
def scrHeld (c : Dev nD) : ℕ → sProp 𝕄
  | 0 => iprop(∃ d, owns (c : Thread nD τ) scM fullShare d)
  | n + 1 => if h : n < cfg1.N then owns (c : Thread nD τ) scM fullShare (scrAt V c n h) else iprop(∃ d, owns (c : Thread nD τ) scM fullShare d)

/-- After a point the scratch holds that point's. -/
theorem scrHeld_succ (c : Dev nD) (t : Fin cfg1.N) :
    scrHeld V c (t.val + 1) = owns (c : Thread nD τ) scM fullShare (scrAt V c t.val t.isLt) := dif_pos t.isLt

/-- Before a point that is not the first it holds what the point before left. -/
theorem scrHeld_pred (c : Dev nD) (t : Fin cfg1.N) (h0 : ¬t.val = 0) :
    scrHeld V c t.val = owns (c : Thread nD τ) scM fullShare (scrAt V c (t.val - 1) (Nat.lt_of_le_of_lt (Nat.sub_le _ _) t.isLt)) := by
  obtain ⟨n, hn⟩ := t
  cases n with
  | zero => exact absurd rfl h0
  | succ n => exact dif_pos _

/-- The invariant at position `n`: the scratch, the other buffers, the generator register. -/
def phi1 (c : Dev nD) (n : ℕ) : sProp 𝕄 := iprop(scrHeld V c n ∗ others1 c ∗ ∃ r, prngReg c r)

/-- The buffers the launch lends are the scratch at anything and the others. -/
theorem scoped_split (c : Dev nD) :
    (Pipeline.scopedRest (Ix := Unit) (Name := ℕ) (U := UR sig nD τ) (Lvl := ℕ) (Val := Elt F) spec1 c : sProp 𝕄)
      ⊢ iprop((∃ d, owns (c : Thread nD τ) scM fullShare d) ∗ others1 c) := by
  rw [scopedRest1_eq]; unfold others1; simp only [scM, owns_whole]
  iintro ⟨A0, A1, A2, A3, A4, A5, A6, S, B0, B1, B2, B3, B4, B5, B6, B7, B8⟩
  isplitl [S]; · iexact S
  isplitl [A0 A1 A2 A3 A4 A5 A6]
  · isplitl [A0]; · iexact A0
    isplitl [A1]; · iexact A1
    isplitl [A2]; · iexact A2
    isplitl [A3]; · iexact A3
    isplitl [A4]; · iexact A4
    isplitl [A5]; · iexact A5
    iexact A6
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  iexact B8

/-- And back. -/
theorem scoped_join (c : Dev nD) :
    iprop((∃ d, owns (c : Thread nD τ) scM fullShare d) ∗ others1 c)
      ⊢ (Pipeline.scopedRest (Ix := Unit) (Name := ℕ) (U := UR sig nD τ) (Lvl := ℕ) (Val := Elt F) spec1 c : sProp 𝕄) := by
  rw [scopedRest1_eq]; unfold others1; simp only [scM, owns_whole]
  iintro ⟨S, ⟨A0, A1, A2, A3, A4, A5, A6⟩, B0, B1, B2, B3, B4, B5, B6, B7, B8⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [S]; · iexact S
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  iexact B8

/-- The routed experts' proof data at entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outsAt1 V c t.val t.isLt
  Φ n := phi1 V c n.val
  q _ := fullShare
  owed _ := 0

/-- Its arrays are the entry contents. -/
theorem A_eq1 (c : Dev nD) (w : Fin cfg1.W) : (dat1 V c).A w = V c (Pipeline.arrRef spec1 w) := by
  dsimp only [dat1]

/-! What the body leaves, and finds, window by window. -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outsAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
/-- After the first point the output's buffer holds what the point before left. -/
theorem before1_6 (c : Dev nD) (t : Fin cfg1.N) (h0 : ¬t.val = 0) (d) :
    (dat1 V c).before 6 t d = outsAt1 V c (t.val - 1) (Nat.lt_of_le_of_lt (Nat.sub_le _ _) t.isLt) := by
  have hN : t.val < 16 := lt_of_lt_of_eq t.isLt (show cfg1.N = 16 from N_1)
  rw [Dat.before_out_kept _ 6 rfl t (by omega) (Bool.eq_false_iff.mpr fun h => by have := (flush1_6 _).mp h; dsimp only at this; omega)
    (fun _ => rfl) (fun _ _ => rfl)]
  dsimp only [dat1]

/-- What the body is called with at a point. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What the body returns at a point. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 2400000 in
/-- The body at any point: the first, a later group's first, or one inside a group. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = phi1 V c (t.val + 1) from rfl, show (dat1 V c).Φ t.castSucc = phi1 V c t.val from rfl,
    show (dat1 V c).owesAt () t.succ = (dat1 V c).owesAt () t.castSucc from rfl,
    after1_0, after1_1, after1_2, after1_3, after1_4, after1_5, after1_6]
  unfold phi1
  rw [scrHeld_succ]
  by_cases h0 : t.val = 0
  · have h1 : t.val % 4 = 0 := by omega
    rw [outsAt1_zero V c t h0, scrAt_new V c t h1, h0,
      show scrHeld V c 0 = iprop(∃ d, owns (c : Thread nD τ) scM fullShare d) from rfl]
    iintro ⟨⟨HS, Hoth, Hp⟩, Ho, ⟨%d0, H0⟩, ⟨%d1, H1⟩, ⟨%d2, H2⟩, ⟨%d3, H3⟩, ⟨%d4, H4⟩, ⟨%d5, H5⟩, ⟨%d6, H6⟩⟩
    iapply (routed_runA c Set.univ (grid1.coords t) _ _ _ _ _ _ _ _ _ _ _ _ _ _ _ _ ((hcond1_0 t).mpr h0) ((hcond1_1 t).mpr h1) (iblk1 V c 0 t) (iblk1 V c 1 t) (iblk1 V c 2 t) (iblk1 V c 3 t) (iblk1 V c 4 t) (iblk1 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hoth Hp]
    · isplitl [HS]; · iexact HS
      isplitl [Hoth]; · iexact Hoth
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  rw [outsAt1_succ V c t h0, scrHeld_pred V c t h0]
  simp only [before1_6 V c t h0]
  by_cases h1 : t.val % 4 = 0
  · rw [scrAt_new V c t h1]
    iintro ⟨⟨HS, Hoth, Hp⟩, Ho, ⟨%d0, H0⟩, ⟨%d1, H1⟩, ⟨%d2, H2⟩, ⟨%d3, H3⟩, ⟨%d4, H4⟩, ⟨%d5, H5⟩, ⟨%d6, H6⟩⟩
    iapply (routed_runC c Set.univ (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexists _; iexact HS
    iintro ⟨H0, H1, H2, H3, H4, H5, H6, HS⟩
    isplitl [HS Hoth Hp]
    · isplitl [HS]; · iexact HS
      isplitl [Hoth]; · iexact Hoth
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [scrAt_old V c t h1]
    iintro ⟨⟨HS, Hoth, Hp⟩, Ho, ⟨%d0, H0⟩, ⟨%d1, H1⟩, ⟨%d2, H2⟩, ⟨%d3, H3⟩, ⟨%d4, H4⟩, ⟨%d5, H5⟩, ⟨%d6, H6⟩⟩
    iapply (routed_runB c Set.univ (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hoth Hp]
    · isplitl [HS]; · iexact HS
      isplitl [Hoth]; · iexact Hoth
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row is the body. -/
theorem defs₀_row1 (t : Fin cfg1.N) :
    defs₀ (F := F) .tc cfg1.body (cfg1.bodyArgs t (cfg1.slots t)) = bodyAt1 t := by
  unfold defs₀; rw [Defs.onTc_tc]

/-- The region's body obligation. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Moe
-- ==== Proof.Shared.lean ====
/- Region 2, the shared expert: what its body leaves in the accumulated output, and its obligation. -/
module

public import proofs.«01_k».proof.Proof.Halves
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window holds its block at every point: fetched it is the block, unfetched the block's index has not moved. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev rW : Rect S256x2048 := Rect.unit (s := S256x2048) ![0, 0] S256x2048.size inb_S256x2048_S256x2048_0_0
abbrev rD : Rect S2048x256 := Rect.unit (s := S2048x256) ![0, 0] S2048x256.size inb_S2048x256_S2048x256_0_0

/-- What a point adds to the running output `acc`: its two halves in turn. -/
def shOut (x0 : Vec F S2048x2048 .bf16) (x2 : Vec F S256x2048 .f32) (x3 : Vec F S256x2048 .f32) (x4 : Vec F S2048x256 .f32) (acc : Vec F S2048x2048 .f32) : Vec F S2048x2048 .f32 :=
  View.canon [⟨rHi, k2_pay1 (k2_pay7 (View.ld acc rHi)) (k2_pay8 (View.ld x2 rW) (View.ld x3 rW) (View.ld x4 rD) (View.ld x0 rHi))⟩,
    ⟨rLo, k2_pay6 (View.ld x2 rW) (View.ld x3 rW) (View.ld x4 rD) (View.ld x0 rLo) (View.ld acc rLo)⟩]

/-- Whether the point is the first one, from the grid coordinates. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (fun t => by
    have ht : t.val < 8 := Nat.lt_of_lt_of_eq t.isLt N_2
    have e0 : (grid2.coords t 0).val = t.val / 1 % 8 := Pipeline.Grid.coords_val t 0 (by decide) rfl
    simp only [cond2_0, e0]
    word_cmp
   : ∀ t : Fin grid2.N, cond2_0 (grid2.coords t) ↔ t.val = 0)

set_option maxHeartbeats 1000000 in
/-- At the first point the body starts from the routed sum and adds the point. -/
theorem shared_runA (c : Dev nD) (E : Set ℕ) (i : grid2.Coords) (arg1 : Memref sig .tc .vmem S2048x2048 .bf16) (harg1 : arg1.IsWhole) (arg2 : Memref sig .tc .vmem S2048x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S2048x2048 .f32) (harg6 : arg6.IsWhole) (hc0 : cond2_0 i)
    (x0 : Vec F S2048x2048 .bf16) (x1 : Vec F S2048x2048 .f32) (x2 : Vec F S256x2048 .f32) (x3 : Vec F S256x2048 .f32) (x4 : Vec F S2048x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (shOut x0 x2 x3 x4 (k2_pay2 (View.ld x1 rAll)))) -∗ K ⟨⟩))
      ⊢ wp frame (wpE (defs₀ (F := F)) Variants.none c none) E (cc2__shared_kernel i arg1 harg1 arg2 harg2 arg3 harg3 arg4 harg4 arg5 harg5 arg6 harg6) K := by
  simp only [cc2__shared_kernel_eq_skeleton]; unfold cc2__shared_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact H5
  ipureintro
  unfold shared_runA.sl.r shared_runA.sl.r_1 shared_runA.sl.v29 shared_runA.sl.H5_2 shared_runA.sl.v16 shared_runA.sl.H5_1
  refine (read_halves _ _ _ _ _).trans ?_
  unfold shOut
  rw [hi_of_lo_all, lo_of_all]
  simp only [View.readAt_eq_ld, hf0, hf1, hf2, hf3, hf4]

set_option maxHeartbeats 1000000 in
/-- At a later point the body adds to what the output holds. -/
theorem shared_runB (c : Dev nD) (E : Set ℕ) (i : grid2.Coords) (arg1 : Memref sig .tc .vmem S2048x2048 .bf16) (harg1 : arg1.IsWhole) (arg2 : Memref sig .tc .vmem S2048x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S2048x2048 .f32) (harg6 : arg6.IsWhole) (hc0 : ¬cond2_0 i)
    (x0 : Vec F S2048x2048 .bf16) (x1 : Vec F S2048x2048 .f32) (x2 : Vec F S256x2048 .f32) (x3 : Vec F S256x2048 .f32) (x4 : Vec F S2048x256 .f32) (acc : Vec F S2048x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare acc
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (shOut x0 x2 x3 x4 acc)) -∗ K ⟨⟩))
      ⊢ wp frame (wpE (defs₀ (F := F)) Variants.none c none) E (cc2__shared_kernel i arg1 harg1 arg2 harg2 arg3 harg3 arg4 harg4 arg5 harg5 arg6 harg6) K := by
  simp only [cc2__shared_kernel_eq_skeleton]; unfold cc2__shared_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact H5
  ipureintro
  refine (read_two _ _ _ _).trans ?_
  unfold shared_runB.sl.r shared_runB.sl.r_1 shared_runB.sl.v29 shOut
  simp only [View.readAt_eq_ld, hf0, hf1, hf2, hf3, hf4, hf5]

/-- What the output holds after point `n`: the routed sum (what the region finds) with the points' additions so far. -/
def outsAt2 (c : Dev nD) : (n : ℕ) → n < cfg2.N → Vec F S2048x2048 .f32
  | 0, hn => shOut (iblk2 V c 0 ⟨0, hn⟩) (iblk2 V c 2 ⟨0, hn⟩) (iblk2 V c 3 ⟨0, hn⟩) (iblk2 V c 4 ⟨0, hn⟩) (k2_pay2 (View.ld (iblk2 V c 1 ⟨0, hn⟩) rAll))
  | n + 1, hn => shOut (iblk2 V c 0 ⟨n + 1, hn⟩) (iblk2 V c 2 ⟨n + 1, hn⟩) (iblk2 V c 3 ⟨n + 1, hn⟩) (iblk2 V c 4 ⟨n + 1, hn⟩) (outsAt2 c n (Nat.lt_of_succ_lt hn))

theorem outsAt2_A (c : Dev nD) (t : Fin cfg2.N) (h0 : t.val = 0) :
    outsAt2 V c t.val t.isLt = shOut (iblk2 V c 0 t) (iblk2 V c 2 t) (iblk2 V c 3 t) (iblk2 V c 4 t) (k2_pay2 (View.ld (iblk2 V c 1 t) rAll)) := by
  obtain ⟨n, hn⟩ := t
  obtain rfl : n = 0 := h0
  rfl

theorem outsAt2_B (c : Dev nD) (t : Fin cfg2.N) (h0 : ¬t.val = 0) :
    outsAt2 V c t.val t.isLt = shOut (iblk2 V c 0 t) (iblk2 V c 2 t) (iblk2 V c 3 t) (iblk2 V c 4 t) (outsAt2 V c (t.val - 1) (Nat.lt_of_le_of_lt (Nat.sub_le _ _) t.isLt)) := by
  obtain ⟨n, hn⟩ := t
  cases n with
  | zero => exact absurd rfl h0
  | succ n => rfl

/-- The shared expert's proof data at entry contents `V`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => outsAt2 V c t.val t.isLt
  Φ _ := Pipeline.ΦA spec2 c
  q _ := fullShare
  owed _ := 0

/-- Its arrays are the entry contents. -/
theorem A_eq2 (c : Dev nD) (w : Fin cfg2.W) : (dat2 V c).A w = V c (Pipeline.arrRef spec2 w) := by
  dsimp only [dat2]

/-! What the body leaves, and finds, window by window. -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = outsAt2 V c t.val t.isLt := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
/-- After the first point the output's buffer holds what the point before left. -/
theorem before2_5 (c : Dev nD) (t : Fin cfg2.N) (h0 : ¬t.val = 0) (d) :
    (dat2 V c).before 5 t d = outsAt2 V c (t.val - 1) (Nat.lt_of_le_of_lt (Nat.sub_le _ _) t.isLt) := by
  have hN : t.val < 8 := lt_of_lt_of_eq t.isLt (show cfg2.N = 8 from N_2)
  rw [Dat.before_out_kept _ 5 rfl t (by omega) (Bool.eq_false_iff.mpr fun h => by have := (flush2_5 _).mp h; dsimp only at this; omega)
    (fun _ => rfl) (fun _ _ => rfl)]
  dsimp only [dat2]

/-- What the body is called with at a point. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What the body returns at a point. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 800000 in
/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  by_cases h0 : t.val = 0
  · rw [outsAt2_A V c t h0]
    iintro ⟨HΦ, Ho, ⟨%d0, H0⟩, ⟨%d1, H1⟩, ⟨%d2, H2⟩, ⟨%d3, H3⟩, ⟨%d4, H4⟩, ⟨%d5, H5⟩⟩
    iapply (shared_runA c Set.univ (grid2.coords t) _ _ _ _ _ _ _ _ _ _ _ _ ((hcond2_0 t).mpr h0) (iblk2 V c 0 t) (iblk2 V c 1 t) (iblk2 V c 2 t) (iblk2 V c 3 t) (iblk2 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [outsAt2_B V c t h0]
    simp only [before2_5 V c t h0]
    iintro ⟨HΦ, Ho, ⟨%d0, H0⟩, ⟨%d1, H1⟩, ⟨%d2, H2⟩, ⟨%d3, H3⟩, ⟨%d4, H4⟩, ⟨%d5, H5⟩⟩
    iapply (shared_runB c Set.univ (grid2.coords t) _ _ _ _ _ _ _ _ _ _ _ _ (fun h => h0 ((hcond2_0 t).mp h)) (iblk2 V c 0 t) (iblk2 V c 1 t) (iblk2 V c 2 t) (iblk2 V c 3 t) (iblk2 V c 4 t) _ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body table's row is the body. -/
theorem defs₀_row2 (t : Fin cfg2.N) :
    defs₀ (F := F) .tc cfg2.body (cfg2.bodyArgs t (cfg2.slots t)) = bodyAt2 t := by
  unfold defs₀; rw [Defs.onTc_tc]

/-- The region's body obligation. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Moe
-- ==== Proof.Run.lean ====
/- The whole launch: the host's first stretch, the three kernels one after another, the host's last reshape — what every
   buffer holds at each boundary, and what the run ends with. -/
module

public import proofs.«01_k».proof.Proof.Route
public import proofs.«01_k».proof.Proof.Routed
public import proofs.«01_k».proof.Proof.Shared
public import proofs.«01_k».proof.Proof.Gen.KernelIdeal.Regions

@[expose] public section

noncomputable section

namespace Cert.KernelIdeal.Moe

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments. -/
abbrev argRefs : List (Ref sig .tc) := [main_arg0, main_arg1, main_arg2, main_arg3, main_arg4, main_arg5, main_arg6, main_arg7, main_arg8]

theorem stretch0_args : ∀ a ∈ argRefs, a ∉ hostOps0_W := ListAll.forall_mem_of_all_decide (by decide +kernel)
theorem stretch3_args : ∀ a ∈ argRefs, a ∉ hostOps3_W := ListAll.forall_mem_of_all_decide (by decide +kernel)

/-! What the buffers hold at each boundary. -/

/-- A boundary's contents, read at the core's references. -/
abbrev readAt (W : Dev nD → Valuation τ sig (Elt F)) : (c : Dev nD) → (b : Ref sig .tc) → Buf (Elt F) ((c : Thread nD τ).loc b) :=
  fun c b => W c b

/-- At the launch. -/
abbrev W0 : Dev nD → Valuation τ sig (Elt F) := fun c b => m ((c : Dev nD), b)
/-- After the host's first stretch. -/
abbrev W1 : Dev nD → Valuation τ sig (Elt F) := fun c => StableHlo.after hostOps0 (W0 m c)
/-- After the router. -/
def W2 (c : Dev nD) : Valuation τ sig (Elt F) :=
  Pipeline.withArrays spec0 c (W1 m c) fun w => (dat0 (readAt (W1 m)) c).arrAt w cfg0.N
/-- After the routed experts. -/
def W3 (c : Dev nD) : Valuation τ sig (Elt F) :=
  Pipeline.withArrays spec1 c (W2 m c) fun w => (dat1 (readAt (W2 m)) c).arrAt w cfg1.N
/-- After the shared expert. -/
def W4 (c : Dev nD) : Valuation τ sig (Elt F) :=
  Pipeline.withArrays spec2 c (W3 m c) fun w => (dat2 (readAt (W3 m)) c).arrAt w cfg2.N
/-- At the return. -/
abbrev W5 : Dev nD → Valuation τ sig (Elt F) := fun c => StableHlo.after hostOps3 (W4 m c)

/-! Each kernel leaves its arrays at what its points wrote back. -/

theorem W2_arr (c : Dev nD) (w : Fin cfg0.W) :
    W2 m c (Proc.devRef .tc (Pipeline.arrRef spec0 w)) = (dat0 (readAt (W1 m)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- It keeps every buffer that is no output of its own. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (readAt (W1 m)) c).arrAt_in w (h w rfl) _).trans (A_eq0 (readAt (W1 m)) c w))
  · exact W2_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)

theorem W3_arr (c : Dev nD) (w : Fin cfg1.W) :
    W3 m c (Proc.devRef .tc (Pipeline.arrRef spec1 w)) = (dat1 (readAt (W2 m)) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- It keeps every buffer that is no output of its own. -/
theorem W3_of (c : Dev nD) (r : Ref sig .tc) (h : ∀ w : Fin cfg1.W, Pipeline.arrRef spec1 w = r → (cfg1.win w).isOut = false) :
    W3 m c (Proc.devRef .tc r) = W2 m c (Proc.devRef .tc r) := by
  by_cases hw : ∃ w : Fin cfg1.W, Pipeline.arrRef spec1 w = r
  · obtain ⟨w, rfl⟩ := hw
    exact (W3_arr m c w).trans (((dat1 (readAt (W2 m)) c).arrAt_in w (h w rfl) _).trans (A_eq1 (readAt (W2 m)) c w))
  · exact W3_of_ne m c r fun w e => hw ⟨w, e⟩
theorem argsIn1 : ∀ a ∈ argRefs, ∀ w : Fin cfg1.W, Pipeline.arrRef spec1 w = a → (cfg1.win w).isOut = false :=
  ListAll.forall_mem_of_all_decide (by decide +kernel)

theorem W4_arr (c : Dev nD) (w : Fin cfg2.W) :
    W4 m c (Proc.devRef .tc (Pipeline.arrRef spec2 w)) = (dat2 (readAt (W3 m)) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- It keeps every buffer that is no output of its own. -/
theorem W4_of (c : Dev nD) (r : Ref sig .tc) (h : ∀ w : Fin cfg2.W, Pipeline.arrRef spec2 w = r → (cfg2.win w).isOut = false) :
    W4 m c (Proc.devRef .tc r) = W3 m c (Proc.devRef .tc r) := by
  by_cases hw : ∃ w : Fin cfg2.W, Pipeline.arrRef spec2 w = r
  · obtain ⟨w, rfl⟩ := hw
    exact (W4_arr m c w).trans (((dat2 (readAt (W3 m)) c).arrAt_in w (h w rfl) _).trans (A_eq2 (readAt (W3 m)) c w))
  · exact W4_of_ne m c r fun w e => hw ⟨w, e⟩
theorem argsIn2 : ∀ a ∈ argRefs, ∀ w : Fin cfg2.W, Pipeline.arrRef spec2 w = a → (cfg2.win w).isOut = false :=
  ListAll.forall_mem_of_all_decide (by decide +kernel)

/-! The arguments are as launched at every boundary. -/

theorem W1_args (c : Dev nD) (a) (ha : a ∈ argRefs) : W1 m c (Proc.devRef .tc a) = m ((c : Thread nD τ).loc a) :=
  StableHlo.after_of_writes_sub hostOps0 _ hostOps0_writes (stretch0_args a ha)
theorem W2_args (c : Dev nD) (a) (ha : a ∈ argRefs) : W2 m c (Proc.devRef .tc a) = m ((c : Thread nD τ).loc a) :=
  (W2_of m c a (argsIn0 a ha)).trans (W1_args m c a ha)
theorem W3_args (c : Dev nD) (a) (ha : a ∈ argRefs) : W3 m c (Proc.devRef .tc a) = m ((c : Thread nD τ).loc a) :=
  (W3_of m c a (argsIn1 a ha)).trans (W2_args m c a ha)
theorem W4_args (c : Dev nD) (a) (ha : a ∈ argRefs) : W4 m c (Proc.devRef .tc a) = m ((c : Thread nD τ).loc a) :=
  (W4_of m c a (argsIn2 a ha)).trans (W3_args m c a ha)
theorem W5_args (c : Dev nD) (a) (ha : a ∈ argRefs) : W5 m c (Proc.devRef .tc a) = m ((c : Thread nD τ).loc a) :=
  (StableHlo.after_of_writes_sub hostOps3 _ hostOps3_writes (stretch3_args a ha)).trans (W4_args m c a ha)

/-! The launch's set-up. -/

/-- The three kernels' proof data, each from the contents it is entered with. -/
def pdats : (p : Fin 3) → (c : Dev nD) → Dat τ (Elt F) Unit ℕ (UR sig nD τ) ℕ (Pipeline.pin (pcfgs (F := F)) adm p) c
  | ⟨0, _⟩ => fun c => dat0 (readAt (W1 m)) c
  | ⟨1, _⟩ => fun c => dat1 (readAt (W2 m)) c
  | ⟨2, _⟩ => fun c => dat2 (readAt (W3 m)) c
abbrev 𝒱₀ : Variants := Variants.none
abbrev L : GSem nD τ sig → Finset Unit := fun _ => ∅
abbrev lv : GSem nD τ sig → Unit → ℕ := fun _ _ => 0
/-- What rides beside the buffers: the generator register, and nothing owed. -/
abbrev R (c : Dev nD) : sProp 𝕄 := iprop((∃ r, prngReg c r) ∗ ∃ W, owes (c : Thread nD τ) (0 : CellTallies nD τ sig Unit) W)
/-- A host stretch from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the return, beside nothing owed. -/
abbrev Tₙ (c : Dev nD) : sProp 𝕄 := iprop(StableHlo.held (c : Thread nD τ) (Pipeline.ucRefs τ sig) (W5 m c) ∗ ∃ r, prngReg c r)

-- unification must unfold plain definitions in a metavariable's type here
set_option backward.isDefEq.respectTransparency.types false in
/-- Any of the three kernels as a segment, from the contents `W` to `W'`: the facts that depend on which one are hypotheses. -/
def region (p : Fin 3) (launch : Pipeline.LaunchFacts (nD := nD) (τ := τ) cfgs p) (W W' : Dev nD → Valuation τ sig (Elt F))
    (hq : ∀ c w, (pdats m p c).q w = fullShare) (howed : ∀ c k, (pdats m p c).owed k = 0)
    (hrec : ∀ c x, x ∈ (pdats m p c).recorded 0)
    (hA : ∀ c w, (pdats m p c).A w = readAt W c (Pipeline.arrRef (cfgs p).spec w))
    (hF : ∀ c w, (pdats m p c).arrAt w (cfgs p).N = readAt W' c (Pipeline.arrRef (cfgs p).spec w))
    (hrest : ∀ c b, b ∉ Finset.univ.image (Pipeline.arrRef (cfgs p).spec) → readAt W' c b = readAt W c b)
    (hbody : ∀ c, BodyObligation (pdats m p c) (defs₀ (F := F)) Variants.none () Set.univ)
    (hin : ∀ c, iprop((∃ r, prngReg c r) ∗ Pipeline.scopedRest (Ix := Unit) (Name := ℕ) (U := UR sig nD τ) (Lvl := ℕ) (Val := Elt F) (cfgs p).spec c)
      ⊢ ((pdats m p c).Φ 0 : sProp 𝕄))
    (hout : ∀ c, ((pdats m p c).Φ (Fin.last _) : sProp 𝕄)
      ⊢ iprop((∃ r, prngReg c r) ∗ Pipeline.scopedRest (Ix := Unit) (Name := ℕ) (U := UR sig nD τ) (Lvl := ℕ) (Val := Elt F) (cfgs p).spec c)) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c (readAt W c)
  hentry c := by
    rw [Pipeline.ownSems0_none]
    have hsplit := Pipeline.arrays_of_unscopedBufs (p := p) (pcfgs (F := F)) adm (pdats m) launch.win launch.arr_whole c
      ((pdats m p c).share_full (hq c)) (readAt W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun x _ => Or.inl (hrec c x)
      iexact HO
    isplitl [Hp]; · iexact Hp
    iexact Hrest
  hin c := by
    iintro ⟨Hp, -, Hr⟩
    iapply (hin c)
    isplitl [Hp]; · iexact Hp
    iexact Hr
  hout c := by
    rw [Pipeline.ownSems0_none]
    iintro H
    ihave H' := (hout c) $$ H
    icases H' with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (readAt W c) (readAt W' c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

/-- A kernel that carries nothing takes the register and the lent buffers in as they are, and gives them back. -/
theorem classA_in (p : Fin 3) (c : Dev nD) :
    iprop((∃ r, prngReg c r) ∗ Pipeline.scopedRest (Ix := Unit) (Name := ℕ) (U := UR sig nD τ) (Lvl := ℕ) (Val := Elt F) (cfgs p).spec c)
      ⊢ (Pipeline.ΦA (cfgs p).spec c : sProp 𝕄) := by
  unfold Pipeline.ΦA
  iintro ⟨Hp, Hr⟩
  isplitl [Hr]; · iexact Hr
  iexact Hp
theorem classA_out (p : Fin 3) (c : Dev nD) : (Pipeline.ΦA (cfgs p).spec c : sProp 𝕄)
      ⊢ iprop((∃ r, prngReg c r) ∗ Pipeline.scopedRest (Ix := Unit) (Name := ℕ) (U := UR sig nD τ) (Lvl := ℕ) (Val := Elt F) (cfgs p).spec c) := by
  unfold Pipeline.ΦA
  iintro ⟨Hr, Hp⟩
  isplitl [Hp]; · iexact Hp
  iexact Hr

/-- The routed experts' first point finds the scratch among the lent buffers, -/
theorem scratch_in (c : Dev nD) :
    iprop((∃ r, prngReg c r) ∗ Pipeline.scopedRest (Ix := Unit) (Name := ℕ) (U := UR sig nD τ) (Lvl := ℕ) (Val := Elt F) spec1 c)
      ⊢ (phi1 (readAt (W2 m)) c 0 : sProp 𝕄) := by
  unfold phi1
  rw [show scrHeld (readAt (W2 m)) c 0 = iprop(∃ d, owns (c : Thread nD τ) scM fullShare d) from rfl]
  iintro ⟨Hp, Hr⟩
  ihave H := (scoped_split c) $$ Hr
  icases H with ⟨Hs, Ho⟩
  isplitl [Hs]; · iexact Hs
  isplitl [Ho]; · iexact Ho
  iexact Hp
/-- and its last one leaves it there. -/
theorem scratch_out (c : Dev nD) : (phi1 (readAt (W2 m)) c cfg1.N : sProp 𝕄)
      ⊢ iprop((∃ r, prngReg c r) ∗ Pipeline.scopedRest (Ix := Unit) (Name := ℕ) (U := UR sig nD τ) (Lvl := ℕ) (Val := Elt F) spec1 c) := by
  unfold phi1
  rw [show cfg1.N = (⟨15, by rw [show cfg1.N = 16 from N_1]; decide⟩ : Fin cfg1.N).val + 1 from N_1, scrHeld_succ]
  iintro ⟨Hs, Ho, Hp⟩
  isplitl [Hp]; · iexact Hp
  iapply (scoped_join c)
  isplitl [Hs]; · iexists _; iexact Hs
  iexact Ho

/-- The router, as a segment. -/
def reg0 : Pipeline.RegionSeg (pcfgs (F := F)) adm (pdats m) () defs₀ 𝒱₀ L lv 0 :=
  region m 0 launch0 (W1 m) (W2 m) (fun _ _ => rfl) (fun _ _ => rfl) (fun _ _ => trivial) (fun c w => A_eq0 (readAt (W1 m)) c w)
    (fun c w => (W2_arr m c w).symm)
    (fun c b hb => W2_of_ne m c b fun w e => hb (Finset.mem_image.mpr ⟨w, Finset.mem_univ _, e⟩))
    (fun c => body_obligation0 (readAt (W1 m)) c) (fun c => classA_in 0 c) (fun c => classA_out 0 c)
/-- The routed experts, as a segment. -/
def reg1 : Pipeline.RegionSeg (pcfgs (F := F)) adm (pdats m) () defs₀ 𝒱₀ L lv 1 :=
  region m 1 launch1 (W2 m) (W3 m) (fun _ _ => rfl) (fun _ _ => rfl) (fun _ _ => trivial) (fun c w => A_eq1 (readAt (W2 m)) c w)
    (fun c w => (W3_arr m c w).symm)
    (fun c b hb => W3_of_ne m c b fun w e => hb (Finset.mem_image.mpr ⟨w, Finset.mem_univ _, e⟩))
    (fun c => body_obligation1 (readAt (W2 m)) c) (scratch_in m) (scratch_out m)
/-- The shared expert, as a segment. -/
def reg2 : Pipeline.RegionSeg (pcfgs (F := F)) adm (pdats m) () defs₀ 𝒱₀ L lv 2 :=
  region m 2 launch2 (W3 m) (W4 m) (fun _ _ => rfl) (fun _ _ => rfl) (fun _ _ => trivial) (fun c w => A_eq2 (readAt (W3 m)) c w)
    (fun c w => (W4_arr m c w).symm)
    (fun c b hb => W4_of_ne m c b fun w e => hb (Finset.mem_image.mpr ⟨w, Finset.mem_univ _, e⟩))
    (fun c => body_obligation2 (readAt (W3 m)) c) (fun c => classA_in 2 c) (fun c => classA_out 2 c)

/-- The program's five segments. -/
abbrev segs : List (Pipeline.Seg (pcfgs (F := F)) adm (pdats m) () defs₀ 𝒱₀ L lv) :=
  [ .host (hseg hostOps0 hostOps0_sub hostOps0_fresh (W0 m)),
    .region (reg0 m), .region (reg1 m), .region (reg2 m),
    .host (hseg hostOps3 hostOps3_sub hostOps3_fresh (W4 m)) ]
/-- The program is their run. -/
theorem main_run (c : Dev nD) : main (F := F) c = Pipeline.Seg.run (segs m) := (main_chain c).trans (by chain_rfl)

theorem no_unscoped : ∀ sm : SemLoc sig, sm.isScoped .tc = true := by decide

-- unification must unfold plain definitions in a metavariable's type here
set_option backward.isDefEq.respectTransparency.types false in
/-- Every run ends, with every unscoped buffer at the return's contents and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h hz => ⟨h, funext fun g => hz g (.inr (no_unscoped g.2))⟩)

/-- What the claims read off the run: the result, every argument as launched, every counter at zero. -/
theorem run_moe : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_v0) = W5 m c (Proc.devRef .tc main_v0))
      ∧ r.2.sem = fun _ => 0) :=
  (θ_run defs _ _).mono (fun r h => ⟨fun c => by
    have ha (a : Ref sig .tc) (hu : ¬ (Proc.devRef .tc a : DevRef τ sig).isScoped) (hm : a ∈ argRefs) :
        r.2.mem ((c.tc : Thread nD τ).loc a) = m ((c.tc : Thread nD τ).loc a) :=
      (h.1 c _ (mem_uc a hu)).trans (W5_args m c a hm)
    exact ⟨ha main_arg0 (by decide) (by decide), ha main_arg1 (by decide) (by decide), ha main_arg2 (by decide) (by decide), ha main_arg3 (by decide) (by decide), ha main_arg4 (by decide) (by decide), ha main_arg5 (by decide) (by decide), ha main_arg6 (by decide) (by decide), ha main_arg7 (by decide) (by decide), ha main_arg8 (by decide) (by decide),
      h.1 c _ (mem_uc main_v0 (by decide))⟩, h.2⟩) (run_all m ρ)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => by
    obtain ⟨h0, h1, h2, h3, h4, h5, h6, h7, h8, -⟩ := h.1 c
    exact ⟨h0, h1, h2, h3, h4, h5, h6, h7, h8⟩, h.2⟩) (run_moe m ρ)

end Cert.KernelIdeal.Moe

end
-- ==== Proof.Frames.lean ====
/- Each program runs to its end, keeps its arguments and leaves every counter at zero. -/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Proof

open Idealize.ShloMosaic Idealize.SL.Sem

attribute [local instance] Cert.Kernel.Gen.facts Cert.KernelIdeal.Gen.facts Cert.ReferenceIdeal.Gen.facts

/-! The program as the machine runs it is the ideal program's text read at bit patterns: no operation was replaced. -/

theorem main_same : Cert.Kernel.main (F := Bits) = Cert.KernelIdeal.main (F := Bits) := rfl

set_option maxHeartbeats 4000000 in
theorem row0_same (t : Fin Cert.Kernel.grid0.N) (s : (w : Fin 4) → Fin (Cert.Kernel.win0 w).nbuf) :
    Cert.Kernel.defs₀ (F := Bits) .tc (0 : Fin 3) (t, s) = Cert.KernelIdeal.defs₀ (F := Bits) .tc (0 : Fin 3) (t, s) := rfl
set_option maxHeartbeats 4000000 in
theorem row1_same (t : Fin Cert.Kernel.grid1.N) (s : (w : Fin 7) → Fin (Cert.Kernel.win1 w).nbuf) :
    Cert.Kernel.defs₀ (F := Bits) .tc (1 : Fin 3) (t, s) = Cert.KernelIdeal.defs₀ (F := Bits) .tc (1 : Fin 3) (t, s) := rfl
set_option maxHeartbeats 4000000 in
theorem row2_same (t : Fin Cert.Kernel.grid2.N) (s : (w : Fin 6) → Fin (Cert.Kernel.win2 w).nbuf) :
    Cert.Kernel.defs₀ (F := Bits) .tc (2 : Fin 3) (t, s) = Cert.KernelIdeal.defs₀ (F := Bits) .tc (2 : Fin 3) (t, s) := rfl

set_option maxHeartbeats 4000000 in
/-- The two tables of bodies agree, label by label. -/
theorem defs₀_same : Cert.Kernel.defs₀ (F := Bits) = Cert.KernelIdeal.defs₀ (F := Bits) := by
  funext p l
  cases p with
  | scScalar _ => rfl
  | scVector _ _ => rfl
  | tc =>
    match l with
    | 0 => exact funext fun ⟨t, s⟩ => row0_same t s
    | 1 => exact funext fun ⟨t, s⟩ => row1_same t s
    | 2 => exact funext fun ⟨t, s⟩ => row2_same t s

/-- So do the tables with the pipelines' own labels. -/
theorem defs_same : Cert.Kernel.defs (F := Bits) = Cert.KernelIdeal.defs (F := Bits) :=
  congrArg (Pipeline.defs (Cert.KernelIdeal.pcfgs (F := Bits))) defs₀_same

/-- The program as the machine runs it. -/
theorem frame_kernel : Cert.quiescent_Kernel := fun m ρ _ => by
  have h := Cert.KernelIdeal.Moe.frame (F := Bits) m ρ
  rw [← defs_same, ← main_same] at h
  exact h

/-- The ideal program. -/
theorem frame_ideal : Cert.quiescent_KernelIdeal := fun m ρ _ => Cert.KernelIdeal.Moe.frame (F := Ideal) m ρ

/-- The reference has no semaphore. -/
theorem reference_no_sem : ∀ s : SemLoc Cert.ReferenceIdeal.sig, False := by
  rintro (⟨_, h⟩ | ⟨_, h⟩) <;> exact absurd h (Nat.not_lt_zero _)

/-- The reference: host operations only. -/
theorem frame_reference : Cert.quiescent_ReferenceIdeal := fun m ρ _ =>
  (θ_run Cert.ReferenceIdeal.defs _ _).mono
    (fun r h => ⟨fun c => (h c).2, funext fun g => (reference_no_sem g.2).elim⟩)
    (Cert.ReferenceIdeal.Value.run (F := Ideal) m ρ)

end Cert.Proof

end
-- ==== Proof.Row.lean ====
/- What one token's router does with its sixteen scores, as plain functions on extended reals: the
   softmax, the two experts chosen, each group's scalar and its four weights. -/
module

public import Idealize.ShloMosaic.PureOps.Ideal
public import Idealize.ShloMosaic.PureOps.Ideal.Laws
public import Idealize.ShloMosaic.Lib.SortFacts

@[expose] public section

noncomputable section

namespace Cert.Moe

open Idealize.ShloMosaic

/-- The greatest of a row, from minus infinity. -/
def top {n : ℕ} (f : Fin n → EReal) : EReal := Finset.univ.fold max ⊥ f

/-- The softmax of a row. -/
def soft {n : ℕ} (f : Fin n → EReal) (i : Fin n) : EReal :=
  Ideal.div (Ideal.exp (f i - top f)) (∑ k, Ideal.exp (f k - top f))

/-- The expert in place `k` when the row is sorted, greatest first and equals in index order. -/
def place {n : ℕ} (p : Fin n → EReal) (k : Fin n) : Fin n :=
  sortedFrom (fun a b => Ideal.cmp .ogt (p a) (p b) == 1#1) k

/-- Whether expert `e` is one of the two chosen. -/
def Chosen (p : Fin 16 → EReal) (e : Fin 16) : Prop := e = place p 0 ∨ e = place p 1

instance (p : Fin 16 → EReal) (e : Fin 16) : Decidable (Chosen p e) := by unfold Chosen; infer_instance

/-- Member `i` of group `g`, as an expert. -/
def member (g i : Fin 4) : Fin 16 := ⟨4 * g.val + i.val, by omega⟩

/-- An expert's weight: its probability if chosen, else zero. -/
def flat (p : Fin 16 → EReal) (e : Fin 16) : EReal := if Chosen p e then p e else 0

/-- A group's scalar: the sum of its members' weights. -/
def scal (p : Fin 16 → EReal) (g : Fin 4) : EReal := ∑ i, flat p (member g i)

/-- The value that stands for an expert not chosen, −10⁹. -/
def low : EReal := Ideal.ofBits .f32 0xCE6E6B28#32

/-- A group's four weights with the zero ones lowered. -/
def masked (p : Fin 16 → EReal) (g i : Fin 4) : EReal :=
  if flat p (member g i) = 0 then low else flat p (member g i)

/-- A group's mixing weights: the softmax of the lowered weights. -/
def weight (p : Fin 16 → EReal) (g i : Fin 4) : EReal := soft (masked p g) i

/-! ## Numbers -/

/-- Whether an extended real is a real number. -/
def Real' (x : EReal) : Prop := ∃ r : ℝ, x = (r : EReal)

/-- The pattern of minus infinity. -/
theorem ofBits_neg_inf : Ideal.ofBits .f32 0xFF800000#32 = ⊥ := by
  simp [Ideal.ofBits, Ideal.ieee]

/-- The lowered value is a real number. -/
theorem low_real : Real' low := by
  unfold Real' low Ideal.ofBits Ideal.ieee
  simp only
  rw [if_neg (by decide), if_neg (by decide)]
  exact ⟨_, rfl⟩

theorem Real'.add {x y : EReal} (hx : Real' x) (hy : Real' y) : Real' (x + y) := by
  obtain ⟨a, rfl⟩ := hx; obtain ⟨b, rfl⟩ := hy; exact ⟨a + b, (EReal.coe_add a b).symm⟩
theorem Real'.sub {x y : EReal} (hx : Real' x) (hy : Real' y) : Real' (x - y) := by
  obtain ⟨a, rfl⟩ := hx; obtain ⟨b, rfl⟩ := hy; exact ⟨a - b, (EReal.coe_sub a b).symm⟩
theorem Real'.mul {x y : EReal} (hx : Real' x) (hy : Real' y) : Real' (x * y) := by
  obtain ⟨a, rfl⟩ := hx; obtain ⟨b, rfl⟩ := hy; exact ⟨a * b, (EReal.coe_mul a b).symm⟩

/-- A finite sum of reals is a real. -/
theorem Real'.sum {n : ℕ} {f : Fin n → EReal} (h : ∀ i, Real' (f i)) : Real' (∑ i, f i) := by
  classical
  refine Finset.sum_induction f Real' (fun _ _ => Real'.add) ⟨0, EReal.coe_zero.symm⟩ fun i _ => h i

/-- The greatest of a nonempty row is one of its entries. -/
theorem top_attained {n : ℕ} (f : Fin (n + 1) → EReal) : ∃ m, top f = f m ∧ ∀ e, f e ≤ f m := by
  obtain ⟨m, hm⟩ := Finite.exists_max f
  refine ⟨m, le_antisymm ?_ ?_, hm⟩
  · exact Finset.fold_max_le _ |>.mpr ⟨bot_le, fun e _ => hm e⟩
  · exact (Finset.le_fold_max _).mpr (Or.inr ⟨m, Finset.mem_univ m, le_rfl⟩)

/-- An entry nothing exceeds is the greatest. -/
theorem top_eq {n : ℕ} (f : Fin n → EReal) (m : Fin n) (h : ∀ e, f e ≤ f m) : top f = f m :=
  le_antisymm (Finset.fold_max_le _ |>.mpr ⟨bot_le, fun e _ => h e⟩)
    ((Finset.le_fold_max _).mpr (Or.inr ⟨m, Finset.mem_univ m, le_rfl⟩))

/-- The exponential of a real is a positive real. -/
theorem exp_pos_real {x : EReal} (h : Real' x) : ∃ r : ℝ, 0 < r ∧ Ideal.exp x = (r : EReal) := by
  obtain ⟨a, rfl⟩ := h; exact ⟨Real.exp a, Real.exp_pos a, rfl⟩

/-- A sum of positive reals over a nonempty row is a positive real. -/
theorem sum_pos_real {n : ℕ} {f : Fin (n + 1) → EReal} (h : ∀ i, ∃ r : ℝ, 0 < r ∧ f i = (r : EReal)) :
    ∃ r : ℝ, 0 < r ∧ ∑ i, f i = (r : EReal) := by
  choose r hr hf using h
  obtain ⟨s, hs⟩ := Real'.sum fun i => (⟨r i, hf i⟩ : Real' (f i))
  refine ⟨s, ?_, hs⟩
  have h0 : (0 : EReal) < ∑ i, f i := by
    rw [Fin.sum_univ_succ]
    refine lt_of_lt_of_le (b := f 0) (by rw [hf 0]; exact_mod_cast hr 0) ?_
    exact le_add_of_nonneg_right (Finset.sum_nonneg fun i _ => by rw [hf]; exact_mod_cast (hr _).le)
  rw [hs] at h0; exact_mod_cast h0

/-- The softmax of a row of reals is a row of positive reals. -/
theorem soft_pos {n : ℕ} {f : Fin (n + 1) → EReal} (h : ∀ i, Real' (f i)) (i : Fin (n + 1)) :
    ∃ r : ℝ, 0 < r ∧ soft f i = (r : EReal) := by
  have ht : Real' (top f) := by obtain ⟨m, hm, -⟩ := top_attained f; rw [hm]; exact h m
  obtain ⟨s, hs, hse⟩ := sum_pos_real fun k => exp_pos_real ((h k).sub ht)
  obtain ⟨e, he, hee⟩ := exp_pos_real ((h i).sub ht)
  refine ⟨e * (1 / s), by positivity, ?_⟩
  unfold soft
  rw [hse, hee, Ideal.div_coe hs.ne', EReal.coe_mul]

/-! ## The sort -/

/-- Greater first, equals in index order: a strict total order on the positions. -/
def ahead {n : ℕ} (p : Fin n → EReal) (a b : Fin n) : Bool := decide (p b < p a ∨ (p a = p b ∧ a < b))

/-- Insertion into positions that all come later compares values alone. -/
theorem stableSort_ahead {n : ℕ} (p : Fin n → EReal) (l : List (Fin n)) (hl : l.Pairwise (· < ·)) :
    stableSort (fun a b => Ideal.cmp .ogt (p a) (p b) == 1#1) l = stableSort (ahead p) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    have hba : ¬ b < a := not_lt.mpr hab.le
    rw [Bool.eq_iff_iff]
    simp only [Ideal.cmp, ahead, beq_iff_eq, decide_eq_true_eq, hba, and_false, or_false]
    by_cases h : p a < p b <;> simp [h]

/-- An earlier place's expert is ahead of a later place's. -/
theorem place_ahead {n : ℕ} (p : Fin n → EReal) (i j : Fin n) (hij : i < j) :
    ahead p (place p j) (place p i) = false := by
  have hs : ∀ k, place p k = sortedFrom (ahead p) k := fun k => by
    unfold place sortedFrom
    rw [List.get_of_eq (show sortPositions n _ = sortPositions n (ahead p) from
      stableSort_ahead p _ (List.pairwise_lt_finRange n))]
    rfl
  rw [hs, hs]
  refine sortedFrom_noInversion (ahead p) (ahead p) ?_ (fun _ _ h => h) ?_ i j hij
  · intro a b h
    simp only [ahead, decide_eq_true_eq, decide_eq_false_iff_not] at h ⊢
    rcases h with h | ⟨h, h'⟩
    · rintro (k | ⟨k, k'⟩)
      · exact lt_asymm h k
      · exact absurd k (ne_of_lt h)
    · rintro (k | ⟨k, k'⟩)
      · exact absurd h (ne_of_gt k).symm
      · exact lt_asymm h' k'
  · intro a b c h h'
    simp only [ahead, decide_eq_false_iff_not, not_or, not_lt, not_and] at h h' ⊢
    refine ⟨h.1.trans h'.1, fun hac => ?_⟩
    have h1 : p a = p b := le_antisymm h.1 (hac ▸ h'.1)
    have h2 : p b = p c := h1.symm.trans hac
    exact (h'.2 h2).trans (h.2 h1)

/-- Two places hold different experts. -/
theorem place_injective {n : ℕ} (p : Fin n → EReal) : Function.Injective (place p) := sortedFrom_injective _

/-- Every expert has a place. -/
theorem place_surjective {n : ℕ} (p : Fin n → EReal) : Function.Surjective (place p) := sortedFrom_surjective _

/-- The first place holds the first of the greatest. -/
theorem place_zero (p : Fin 16 → EReal) (e : Fin 16) :
    p e ≤ p (place p 0) ∧ (e < place p 0 → p e < p (place p 0)) := by
  obtain ⟨k, rfl⟩ := place_surjective p e
  by_cases hk : k = 0
  · subst hk; exact ⟨le_rfl, fun h => absurd h (lt_irrefl _)⟩
  · have h := place_ahead p 0 k (Fin.pos_of_ne_zero hk)
    simp only [ahead, decide_eq_false_iff_not, not_or, not_lt, not_and] at h
    exact ⟨h.1, fun hlt => lt_of_le_of_ne h.1 fun he => absurd hlt (not_lt.mpr (h.2 he))⟩

/-- The second place holds the first of the greatest among the others. -/
theorem place_one (p : Fin 16 → EReal) (e : Fin 16) (he : e ≠ place p 0) :
    p e ≤ p (place p 1) ∧ (e < place p 1 → p e < p (place p 1)) := by
  obtain ⟨k, rfl⟩ := place_surjective p e
  by_cases hk : k = 1
  · subst hk; exact ⟨le_rfl, fun h => absurd h (lt_irrefl _)⟩
  · have hk0 : k ≠ 0 := fun h => he (by rw [h])
    have h := place_ahead p 1 k (by
      have h0 : k.val ≠ 0 := fun h => hk0 (Fin.ext h)
      have h1 : k.val ≠ 1 := fun h => hk (Fin.ext h)
      exact Fin.lt_def.mpr (show 1 < k.val by omega))
    simp only [ahead, decide_eq_false_iff_not, not_or, not_lt, not_and] at h
    exact ⟨h.1, fun hlt => lt_of_le_of_ne h.1 fun he => absurd hlt (not_lt.mpr (h.2 he))⟩

/-! ## The choice by two rounds of "the first of the greatest" -/

/-- The smallest number of an expert whose value is the greatest, by a signed minimum over the row. -/
def pick (f : Fin 16 → EReal) : BitVec 32 :=
  Finset.univ.fold IntOp.minsi 2147483647#32
    fun k : Fin 16 => Scalar.select (Ideal.cmp .oeq (f k) (top f)) (BitVec.ofNat 32 k.val) 16#32

/-- A signed minimum is at least a bound exactly when both its operands are. -/
theorem le_minsi (x y z : BitVec 32) : x.toInt ≤ (IntOp.minsi y z).toInt ↔ x.toInt ≤ y.toInt ∧ x.toInt ≤ z.toInt := by
  unfold IntOp.minsi
  by_cases h : y.slt z = true
  · rw [if_pos h]; rw [BitVec.slt_iff_toInt_lt] at h; omega
  · rw [if_neg h]; rw [BitVec.slt_iff_toInt_lt] at h; omega

/-- The number of an expert, read signed. -/
theorem toInt_expert (k : Fin 16) : (BitVec.ofNat 32 k.val).toInt = (k.val : ℤ) := by
  revert k; decide

/-- The pick is the first expert whose value is the greatest. -/
theorem pick_eq (f : Fin 16 → EReal) (m : Fin 16) (h : ∀ e, f e ≤ f m ∧ (e < m → f e < f m)) :
    pick f = BitVec.ofNat 32 m.val := by
  have ht : top f = f m := top_eq f m fun e => (h e).1
  have hterm : ∀ k : Fin 16, Scalar.select (Ideal.cmp .oeq (f k) (top f)) (BitVec.ofNat 32 k.val) 16#32
      = if f k = f m then BitVec.ofNat 32 k.val else 16#32 := fun k => by
    rw [ht]; by_cases hk : f k = f m <;> simp [Ideal.cmp, Scalar.select, hk]
  have key := fun c : BitVec 32 => Finset.fold_op_rel_iff_and (s := (Finset.univ : Finset (Fin 16))) (op := IntOp.minsi)
    (b := 2147483647#32) (f := fun k : Fin 16 => if f k = f m then BitVec.ofNat 32 k.val else 16#32)
    (r := fun x y : BitVec 32 => x.toInt ≤ y.toInt) (fun {x y z} => le_minsi x y z) (c := c)
  unfold pick
  simp only [hterm]
  apply BitVec.eq_of_toInt_eq
  apply le_antisymm
  · have := ((key _).mp le_rfl).2 m (Finset.mem_univ m)
    simpa using this
  · refine (key _).mpr ⟨?_, fun k _ => ?_⟩
    · rw [toInt_expert]; have := m.isLt; have h2 : (2147483647#32).toInt = 2147483647 := by decide
      omega
    · by_cases hk : f k = f m
      · rw [if_pos hk, toInt_expert, toInt_expert]
        have : ¬ k < m := fun hlt => absurd hk (ne_of_lt ((h k).2 hlt))
        exact_mod_cast Fin.not_lt.mp this
      · rw [if_neg hk, toInt_expert]; have := m.isLt; have h2 : (16#32).toInt = 16 := by decide
        omega

/-- The first round picks the first place. -/
theorem pick_first (p : Fin 16 → EReal) : pick p = BitVec.ofNat 32 (place p 0).val := pick_eq p _ (place_zero p)

/-- The row with the first pick taken out. -/
def rest (p : Fin 16 → EReal) (e : Fin 16) : EReal := if e = place p 0 then ⊥ else p e

/-- The second round picks the second place. -/
theorem pick_second (p : Fin 16 → EReal) (hp : ∀ e, ⊥ < p e) : pick (rest p) = BitVec.ofNat 32 (place p 1).val := by
  have h10 : place p 1 ≠ place p 0 := fun h => absurd (place_injective p h) (by decide)
  refine pick_eq _ _ fun e => ?_
  have h1 : rest p (place p 1) = p (place p 1) := if_neg h10
  by_cases he : e = place p 0
  · have h0 : rest p e = ⊥ := if_pos he
    rw [h0, h1]; exact ⟨bot_le, fun _ => hp _⟩
  · have h0 : rest p e = p e := if_neg he
    rw [h0, h1]; exact place_one p e he

/-- The number of an expert tells which it is. -/
theorem ofNat_expert_inj (a b : Fin 16) : BitVec.ofNat 32 a.val = BitVec.ofNat 32 b.val ↔ a = b := by
  revert a b; decide

/-! ## A group's four among the sixteen -/

/-- A sum over the sixteen that counts one group alone is a sum over its four. -/
theorem sum_group (g : Fin 4) (f : Fin 16 → EReal) :
    (∑ e : Fin 16, if e.val / 4 = g.val then f e else 0) = ∑ i, f (member g i) := by
  rw [← Equiv.sum_comp (finProdFinEquiv : Fin 4 × Fin 4 ≃ Fin 16), Fintype.sum_prod_type]
  rw [Finset.sum_eq_single g]
  · refine Finset.sum_congr rfl fun i _ => ?_
    have hv : ((finProdFinEquiv : Fin 4 × Fin 4 ≃ Fin 16) (g, i)) = member g i :=
      Fin.ext (by simp [finProdFinEquiv, member]; omega)
    rw [hv, if_pos (by simp only [member]; omega)]
  · intro a _ ha
    refine Finset.sum_eq_zero fun i _ => if_neg ?_
    have hv : ((finProdFinEquiv : Fin 4 × Fin 4 ≃ Fin 16) (a, i)).val = i.val + 4 * a.val := by simp [finProdFinEquiv]
    rw [hv]
    intro h; exact ha (Fin.ext (by omega))
  · intro h; exact absurd (Finset.mem_univ g) h

/-- The greatest over the sixteen with the other groups at minus infinity is the greatest over the four. -/
theorem top_group (g : Fin 4) (f : Fin 16 → EReal) :
    top (fun e : Fin 16 => if e.val / 4 = g.val then f e else ⊥) = top fun i => f (member g i) := by
  apply le_antisymm
  · refine (Finset.fold_max_le _).mpr ⟨bot_le, fun e _ => ?_⟩
    by_cases h : e.val / 4 = g.val
    · rw [if_pos h]
      refine (Finset.le_fold_max _).mpr (Or.inr ⟨⟨e.val % 4, by omega⟩, Finset.mem_univ _, le_of_eq (congrArg f (Fin.ext ?_))⟩)
      simp only [member]; omega
    · rw [if_neg h]; exact bot_le
  · refine (Finset.fold_max_le _).mpr ⟨bot_le, fun i _ => (Finset.le_fold_max _).mpr (Or.inr ⟨member g i, Finset.mem_univ _, ?_⟩)⟩
    rw [if_pos (by simp only [member]; omega)]

/-- Lowering what is not chosen is lowering what is zero, since probabilities are not zero. -/
theorem masked_eq (p : Fin 16 → EReal) (hp : ∀ e, ∃ r : ℝ, 0 < r ∧ p e = (r : EReal)) (g i : Fin 4) :
    masked p g i = if Chosen p (member g i) then p (member g i) else low := by
  unfold masked flat
  by_cases h : Chosen p (member g i)
  · obtain ⟨r, hr, he⟩ := hp (member g i)
    rw [if_pos h, if_pos h, if_neg]
    rw [he]; exact_mod_cast hr.ne'
  · rw [if_neg h, if_neg h, if_pos rfl]

/-- The softmax taken over the sixteen with the other groups left out gives a group's weights on its members. -/
theorem soft_group (p : Fin 16 → EReal) (hp : ∀ e, ∃ r : ℝ, 0 < r ∧ p e = (r : EReal)) (g : Fin 4) (fm : Fin 16 → EReal)
    (hfm : ∀ i, fm (member g i) = if Chosen p (member g i) then p (member g i) else low) (e : Fin 16) :
    Ideal.div (if e.val / 4 = g.val then Ideal.exp (fm e - top (fun k : Fin 16 => if k.val / 4 = g.val then fm k else ⊥)) else 0)
        (∑ j : Fin 16, if j.val / 4 = g.val then Ideal.exp (fm j - top (fun k : Fin 16 => if k.val / 4 = g.val then fm k else ⊥)) else 0)
      = if e.val / 4 = g.val then weight p g ⟨e.val % 4, by omega⟩ else 0 := by
  have hm : (fun i => fm (member g i)) = masked p g := funext fun i => by rw [hfm, masked_eq p hp]
  rw [top_group, sum_group g fun j => Ideal.exp (fm j - top fun i => fm (member g i)), hm]
  simp only [fun i => congrFun hm i]
  have hr : ∀ i, Real' (masked p g i) := fun i => by
    rw [masked_eq p hp]
    by_cases h : Chosen p (member g i)
    · rw [if_pos h]; obtain ⟨r, -, he⟩ := hp (member g i); exact ⟨r, he⟩
    · rw [if_neg h]; exact low_real
  by_cases h : e.val / 4 = g.val
  · rw [if_pos h, if_pos h]
    have he : e = member g ⟨e.val % 4, by omega⟩ := Fin.ext (by simp only [member]; omega)
    unfold weight soft
    rw [← congrFun hm, ← he]
  · rw [if_neg h, if_neg h]
    have ht : Real' (top (masked p g)) := by obtain ⟨m, hm, -⟩ := top_attained (masked p g); rw [hm]; exact hr m
    obtain ⟨s, hs, hse⟩ := sum_pos_real fun k => exp_pos_real ((hr k).sub ht)
    rw [hse, Ideal.div_coe hs.ne', zero_mul]

/-- A group's scalar is a nonnegative real. -/
theorem scal_real (p : Fin 16 → EReal) (hp : ∀ e, ∃ r : ℝ, 0 < r ∧ p e = (r : EReal)) (g : Fin 4) :
    0 ≤ scal p g ∧ scal p g ≠ ⊤ := by
  have h : ∀ i, Real' (flat p (member g i)) ∧ 0 ≤ flat p (member g i) := fun i => by
    unfold flat
    by_cases h : Chosen p (member g i)
    · obtain ⟨r, hr, he⟩ := hp (member g i)
      rw [if_pos h, he]; exact ⟨⟨r, rfl⟩, by exact_mod_cast hr.le⟩
    · rw [if_neg h]; exact ⟨⟨0, rfl⟩, le_rfl⟩
  obtain ⟨r, hr⟩ := Real'.sum fun i => (h i).1
  exact ⟨Finset.sum_nonneg fun i _ => (h i).2, by unfold scal; rw [hr]; exact EReal.coe_ne_top r⟩

/-- A nonnegative real goes into a finite sum. -/
theorem mul_sum_of_nonneg {n : ℕ} {c : EReal} (h0 : 0 ≤ c) (ht : c ≠ ⊤) (f : Fin n → EReal) :
    c * ∑ i, f i = ∑ i, c * f i := by
  classical
  induction (Finset.univ : Finset (Fin n)) using Finset.induction_on with
  | empty => simp
  | insert a s ha ih => rw [Finset.sum_insert ha, Finset.sum_insert ha, EReal.left_distrib_of_nonneg_of_ne_top h0 ht, ih]

/-- An expert's weight is the sum, over the two places, of the place's probability where the place holds the expert. -/
theorem flat_eq_sum (p : Fin 16 → EReal) (e : Fin 16) :
    flat p e = (if place p 0 = e then p (place p 0) else 0) + (if place p 1 = e then p (place p 1) else 0) := by
  have h10 : place p 0 ≠ place p 1 := fun h => absurd (place_injective p h) (by decide)
  unfold flat
  by_cases h0 : place p 0 = e
  · subst h0
    have hc : Chosen p (place p 0) := Or.inl rfl
    rw [if_pos hc, if_pos rfl, if_neg h10.symm, add_zero]
  · by_cases h1 : place p 1 = e
    · subst h1
      have hc : Chosen p (place p 1) := Or.inr rfl
      rw [if_pos hc, if_neg h10, if_pos rfl, zero_add]
    · have hc : ¬ Chosen p e := by
        rintro (h | h)
        · exact h0 h.symm
        · exact h1 h.symm
      rw [if_neg hc, if_neg h0, if_neg h1, add_zero]

end Cert.Moe
-- ==== Proof.Neuron.lean ====
/- One hidden unit of an expert, and an expert's sum over a stretch of its units. -/
module

public import proofs.«01_k».proof.Proof.Row

@[expose] public section

noncomputable section

namespace Cert.Moe

open Idealize.ShloMosaic

/-- One hidden unit of an expert: the gate's product through `x · logistic x`, times the other product. -/
def neuron (x wg wu : Fin 2048 → EReal) : EReal :=
  (∑ k, x k * wg k) * Ideal.logistic (∑ k, x k * wg k) * ∑ k, x k * wu k

/-- A group's part of one entry: the token's scalar times the group's expert of the modulated token. -/
def groupPart (p : Fin 16 → EReal) (g : Fin 4) (x : Fin 2048 → EReal) (a : Fin 2048 → Fin 4 → EReal) (wg wu : Fin 1024 → Fin 2048 → EReal)
    (wd : Fin 1024 → EReal) : EReal :=
  scal p g * ∑ u : Fin 1024, neuron (fun k => x k + ∑ i : Fin 4, weight p g i * a k i) (wg u) (wu u) * wd u

/-- One entry of the result: the four groups' parts and the shared expert's. -/
def entry (p : Fin 16 → EReal) (x : Fin 2048 → EReal) (a : Fin 4 → Fin 2048 → Fin 4 → EReal) (wg wu : Fin 4 → Fin 1024 → Fin 2048 → EReal)
    (wd : Fin 4 → Fin 1024 → EReal) (sg su : Fin 2048 → Fin 2048 → EReal) (sd : Fin 2048 → EReal) : EReal :=
  (∑ g : Fin 4, groupPart p g x (a g) (wg g) (wu g) (wd g)) + ∑ n : Fin 2048, neuron x (sg n) (su n) * sd n

/-- A sum over `a * b` terms, taken block by block. -/
theorem sum_blocks (a b : ℕ) (f : ℕ → EReal) :
    ∑ i ∈ Finset.range a, ∑ j : Fin b, f (i * b + j.val) = ∑ n : Fin (a * b), f n.val := by
  rw [Fin.sum_univ_eq_sum_range]
  induction a with
  | zero => simp
  | succ a ih => rw [Finset.sum_range_succ, ih, Nat.succ_mul, Finset.sum_range_add, Fin.sum_univ_eq_sum_range (fun j => f (a * b + j))]

end Cert.Moe

end
-- ==== Proof.SharedValue.lean ====
/- What the shared expert adds: a block of its units at each point, and the output array after the last. -/
module

public import proofs.«01_k».proof.Proof.Shared
public import proofs.«01_k».proof.Proof.Neuron
public import Idealize.ShloMosaic.Lib.Pipeline.ValueKit
public import Idealize.ShloMosaic.Lib.Pointwise

@[expose] public section

set_option maxRecDepth 16384

noncomputable section

namespace Cert.KernelIdeal.Moe

open Cert.KernelIdeal.Gen Cert.Moe
open Idealize.ShloMosaic Idealize.ShloMosaic.TcCoe
open Idealize.SL Idealize.SL.RA Idealize.SL.Sem
open Idealize.ShloMosaic.Pipeline (Dat Cfg Window)

/-! ## One point -/

/-- One half's new rows, first half: what was there, plus the block of units. -/
theorem pay6_apply (wg wu : FVec Ideal S256x2048 .f32) (wd : FVec Ideal S2048x256 .f32) (x : FVec Ideal S1024x2048 .bf16)
    (acc : FVec Ideal S1024x2048 .f32) (r : Fin 1024) (h : Fin 2048) : k2_pay6 (F := Ideal) wg wu wd x acc (ix2 r h)
      = acc (ix2 r h) + ∑ n : Fin 256, neuron (fun k => x (ix2 r k)) (fun k => wg (ix2 n k)) (fun k => wu (ix2 n k)) * wd (ix2 h n) := by
  unfold neuron
  pointwise [k2_pay6, k2_pay5, k2_pay4, k2_pay3]

/-- The second half's new rows: the same. -/
theorem pay1_apply (wg wu : FVec Ideal S256x2048 .f32) (wd : FVec Ideal S2048x256 .f32) (x : FVec Ideal S1024x2048 .bf16)
    (acc : FVec Ideal S1024x2048 .f32) (r : Fin 1024) (h : Fin 2048) : k2_pay1 (F := Ideal) (k2_pay7 acc) (k2_pay8 wg wu wd x) (ix2 r h)
      = acc (ix2 r h) + ∑ n : Fin 256, neuron (fun k => x (ix2 r k)) (fun k => wg (ix2 n k)) (fun k => wu (ix2 n k)) * wd (ix2 h n) := by
  unfold neuron
  pointwise [k2_pay1, k2_pay7, k2_pay8, k2_pay5, k2_pay4, k2_pay3]

/-- Two halves stored one after the other leave `G`, when each is `G` on its rows. -/
theorem halves_apply (p q : FVec Ideal S1024x2048 .f32) (G : S2048x2048.Idx → EReal)
    (hp : ∀ x, p x = G (rHi.emb x)) (hq : ∀ x, q x = G (rLo.emb x)) :
    View.canon ([⟨rHi, p⟩, ⟨rLo, q⟩] : List (View.Piece (Elt Ideal) S2048x2048 .f32)) = G := by
  funext y
  refine View.canon_apply_of_pieces (Val := Elt Ideal) (e := .f32) G _ ?_ y (cover_halves (F := Ideal) (e := .f32) p q y)
  intro a ha
  simp only [List.mem_cons, List.not_mem_nil, or_false] at ha
  rcases ha with rfl | rfl
  · exact hp
  · exact hq

/-- A row of the first half, placed in the array. -/
theorem lo_emb (r : Fin 1024) (h : Fin 2048) : rLo.emb (ix2 r h) = (ix2 ⟨r.val, by omega⟩ h : S2048x2048.Idx) := by
  funext a; apply Fin.ext
  match a with
  | ⟨0, _⟩ => show 0 + 1 * r.val = r.val; omega
  | ⟨1, _⟩ => show 0 + 1 * h.val = h.val; omega

/-- A row of the second half, placed in the array. -/
theorem hi_emb (r : Fin 1024) (h : Fin 2048) : rHi.emb (ix2 r h) = (ix2 ⟨1024 + r.val, by omega⟩ h : S2048x2048.Idx) := by
  funext a; apply Fin.ext
  match a with
  | ⟨0, _⟩ => show 1024 + 1 * r.val = 1024 + r.val; omega
  | ⟨1, _⟩ => show 0 + 1 * h.val = h.val; omega

theorem lo_row (r : Fin 1024) (h k : Fin 2048) : rLo.emb (ix2 r k) = (ix2 (rLo.emb (ix2 r h) 0) k : S2048x2048.Idx) := by
  rw [lo_emb, lo_emb]; rfl
theorem lo_col (r : Fin 1024) (h : Fin 2048) : h = rLo.emb (ix2 r h) 1 := by rw [lo_emb]; rfl
theorem hi_row (r : Fin 1024) (h k : Fin 2048) : rHi.emb (ix2 r k) = (ix2 (rHi.emb (ix2 r h) 0) k : S2048x2048.Idx) := by
  rw [hi_emb, hi_emb]; rfl
theorem hi_col (r : Fin 1024) (h : Fin 2048) : h = rHi.emb (ix2 r h) 1 := by rw [hi_emb]; rfl

/-- What a point leaves: what was there, plus its block of units. -/
theorem shOut_apply (x : FVec Ideal S2048x2048 .bf16) (wg wu : FVec Ideal S256x2048 .f32) (wd : FVec Ideal S2048x256 .f32)
    (acc : FVec Ideal S2048x2048 .f32) : shOut (F := Ideal) x wg wu wd acc = fun i => acc i
      + ∑ n : Fin 256, neuron (fun k => x (ix2 (i 0) k)) (fun k => wg (ix2 n k)) (fun k => wu (ix2 n k)) * wd (ix2 (i 1) n) := by
  have hg : View.ld (Val := Elt Ideal) (e' := .f32) wg rW = wg := View.ld_unit_zero off2 _ _
  have hu : View.ld (Val := Elt Ideal) (e' := .f32) wu rW = wu := View.ld_unit_zero off2 _ _
  have hd : View.ld (Val := Elt Ideal) (e' := .f32) wd rD = wd := View.ld_unit_zero off2 _ _
  unfold shOut
  rw [hg, hu, hd]
  have key : ∀ (z : S2048x2048.Idx) (f : Fin 2048 → S2048x2048.Idx) (h : Fin 2048), (∀ k, f k = ix2 (z 0) k) → h = z 1 →
      acc z + ∑ n : Fin 256, neuron (fun k => x (f k)) (fun k => wg (ix2 n k)) (fun k => wu (ix2 n k)) * wd (ix2 h n)
        = acc z + ∑ n : Fin 256, neuron (fun k => x (ix2 (z 0) k)) (fun k => wg (ix2 n k)) (fun k => wu (ix2 n k)) * wd (ix2 (z 1) n) := by
    intro z f h hf hh
    obtain rfl : f = fun k => ix2 (z 0) k := funext hf
    subst hh; rfl
  refine halves_apply _ _ _ (fun y => ?_) (fun y => ?_)
  · rw [eq_ix2 y]
    refine (pay1_apply wg wu wd _ _ (y 0) (y 1)).trans ?_
    refine key (rHi.emb (ix2 (y 0) (y 1))) (fun k => rHi.emb (ix2 (y 0) k)) (y 1) (fun k => ?_) ?_
    · exact hi_row (y 0) (y 1) k
    · exact hi_col (y 0) (y 1)
  · rw [eq_ix2 y]
    refine (pay6_apply wg wu wd _ _ (y 0) (y 1)).trans ?_
    refine key (rLo.emb (ix2 (y 0) (y 1))) (fun k => rLo.emb (ix2 (y 0) k)) (y 1) (fun k => ?_) ?_
    · exact lo_row (y 0) (y 1) k
    · exact lo_col (y 0) (y 1)

/-! ## All the points -/

variable (V : (c : Dev nD) → (b : Ref sig .tc) → Buf (Elt Ideal) ((c : Thread nD τ).loc b))

theorem idx2_0 : ∀ t : Fin grid2.N, win2_0.index t = ![0, 0] := by decide +kernel
theorem idx2_1 : ∀ t : Fin grid2.N, win2_1.index t = ![0, 0] := by decide +kernel
theorem idx2_2 : ∀ t : Fin grid2.N, win2_2.index t = ![t.val, 0] := by decide +kernel
theorem idx2_3 : ∀ t : Fin grid2.N, win2_3.index t = ![t.val, 0] := by decide +kernel
theorem idx2_4 : ∀ t : Fin grid2.N, win2_4.index t = ![0, t.val] := by decide +kernel
theorem idx2_5 : ∀ t : Fin grid2.N, win2_5.index t = ![0, 0] := by decide +kernel

/-- Unit `n` of block `t`. -/
def unit2 (t : Fin cfg2.N) (n : Fin 256) : Fin 2048 := ⟨t.val * 256 + n.val, by have : t.val < 8 := t.isLt; omega⟩

/-- The tokens are read whole. -/
theorem iblk2_0_eq (c : Dev nD) (t : Fin cfg2.N) : iblk2 V c 0 t = V c main_call0_v3_1 := by
  have hi := idx2_0 t
  funext y
  unfold iblk2; rw [View.read_apply]
  show V c main_call0_v3_1 _ = _
  congr 1; funext a; apply Fin.ext
  match a with
  | ⟨0, _⟩ => show win2_0.index t 0 * 2048 + 1 * (y 0).val = (y 0).val; rw [hi]; show 0 * 2048 + 1 * (y 0).val = _; omega
  | ⟨1, _⟩ => show win2_0.index t 1 * 2048 + 1 * (y 1).val = (y 1).val; rw [hi]; show 0 * 2048 + 1 * (y 1).val = _; omega

/-- The routed experts' sum is read whole. -/
theorem iblk2_1_eq (c : Dev nD) (t : Fin cfg2.N) : iblk2 V c 1 t = V c main_call0_v4 := by
  have hi := idx2_1 t
  funext y
  unfold iblk2; rw [View.read_apply]
  show V c main_call0_v4 _ = _
  congr 1; funext a; apply Fin.ext
  match a with
  | ⟨0, _⟩ => show win2_1.index t 0 * 2048 + 1 * (y 0).val = (y 0).val; rw [hi]; show 0 * 2048 + 1 * (y 0).val = _; omega
  | ⟨1, _⟩ => show win2_1.index t 1 * 2048 + 1 * (y 1).val = (y 1).val; rw [hi]; show 0 * 2048 + 1 * (y 1).val = _; omega

/-- The gate's block of units. -/
theorem iblk2_2_apply (c : Dev nD) (t : Fin cfg2.N) (n : Fin 256) (k : Fin 2048) :
    iblk2 V c 2 t (ix2 n k) = V c main_arg6 (ix2 (unit2 t n) k) := by
  have hi := idx2_2 t
  unfold iblk2; rw [View.read_apply]
  show V c main_arg6 _ = _
  congr 1; funext a; apply Fin.ext
  match a with
  | ⟨0, _⟩ => show win2_2.index t 0 * 256 + 1 * n.val = t.val * 256 + n.val; rw [hi]; show t.val * 256 + 1 * n.val = _; omega
  | ⟨1, _⟩ => show win2_2.index t 1 * 2048 + 1 * k.val = k.val; rw [hi]; show 0 * 2048 + 1 * k.val = _; omega

/-- The other product's block of units. -/
theorem iblk2_3_apply (c : Dev nD) (t : Fin cfg2.N) (n : Fin 256) (k : Fin 2048) :
    iblk2 V c 3 t (ix2 n k) = V c main_arg7 (ix2 (unit2 t n) k) := by
  have hi := idx2_3 t
  unfold iblk2; rw [View.read_apply]
  show V c main_arg7 _ = _
  congr 1; funext a; apply Fin.ext
  match a with
  | ⟨0, _⟩ => show win2_3.index t 0 * 256 + 1 * n.val = t.val * 256 + n.val; rw [hi]; show t.val * 256 + 1 * n.val = _; omega
  | ⟨1, _⟩ => show win2_3.index t 1 * 2048 + 1 * k.val = k.val; rw [hi]; show 0 * 2048 + 1 * k.val = _; omega

/-- The closing product's block of units. -/
theorem iblk2_4_apply (c : Dev nD) (t : Fin cfg2.N) (h : Fin 2048) (n : Fin 256) :
    iblk2 V c 4 t (ix2 h n) = V c main_arg8 (ix2 h (unit2 t n)) := by
  have hi := idx2_4 t
  unfold iblk2; rw [View.read_apply]
  show V c main_arg8 _ = _
  congr 1; funext a; apply Fin.ext
  match a with
  | ⟨0, _⟩ => show win2_4.index t 0 * 2048 + 1 * h.val = h.val; rw [hi]; show 0 * 2048 + 1 * h.val = _; omega
  | ⟨1, _⟩ => show win2_4.index t 1 * 256 + 1 * n.val = t.val * 256 + n.val; rw [hi]; show t.val * 256 + 1 * n.val = _; omega

/-- The product of unit `n` of the shared expert with its closing weight, for the tokens `X`; zero past the last unit. -/
def sharedTerm (X : S2048x2048.Idx → EReal) (wg wu wd : S2048x2048.Idx → EReal) (i : S2048x2048.Idx) (n : ℕ) : EReal :=
  if hn : n < 2048 then neuron (fun k => X (ix2 (i 0) k)) (fun k => wg (ix2 ⟨n, hn⟩ k)) (fun k => wu (ix2 ⟨n, hn⟩ k)) * wd (ix2 (i 1) ⟨n, hn⟩)
  else 0

/-- The array `Y` plus the shared expert's output for the tokens `X`. -/
def sharedSum (Y X wg wu wd : S2048x2048.Idx → EReal) (i : S2048x2048.Idx) : EReal :=
  Y i + ∑ n : Fin 2048, neuron (fun k => X (ix2 (i 0) k)) (fun k => wg (ix2 n k)) (fun k => wu (ix2 n k)) * wd (ix2 (i 1) n)

/-- `Y` plus the shared expert's first `m` blocks of 256 units. -/
def sharedPart (Y X wg wu wd : S2048x2048.Idx → EReal) (m : ℕ) (i : S2048x2048.Idx) : EReal :=
  Y i + ∑ b ∈ Finset.range m, ∑ j : Fin 256, sharedTerm X wg wu wd i (b * 256 + j.val)

/-- Eight blocks are the whole expert. -/
theorem sharedPart_all (Y X wg wu wd : S2048x2048.Idx → EReal) : sharedPart Y X wg wu wd 8 = sharedSum Y X wg wu wd := by
  funext i
  unfold sharedPart sharedSum
  rw [sum_blocks 8 256]
  refine congrArg (Y i + ·) (Finset.sum_congr rfl fun n _ => ?_)
  have hn : n.val < 2048 := n.isLt
  unfold sharedTerm
  rw [dif_pos hn]

/-- One more block. -/
theorem sharedPart_succ (Y X wg wu wd : S2048x2048.Idx → EReal) (m : ℕ) (i : S2048x2048.Idx) :
    sharedPart Y X wg wu wd (m + 1) i = sharedPart Y X wg wu wd m i + ∑ j : Fin 256, sharedTerm X wg wu wd i (m * 256 + j.val) := by
  unfold sharedPart
  rw [Finset.sum_range_succ, add_assoc]

/-- A point adds its block of terms to what was there. -/
theorem shOut_point (c : Dev nD) (t : Fin cfg2.N) (Y : S2048x2048.Idx → EReal) (acc : FVec Ideal S2048x2048 .f32)
    (hacc : acc = sharedPart Y (V c main_call0_v3_1) (V c main_arg6) (V c main_arg7) (V c main_arg8) t.val) :
    shOut (F := Ideal) (iblk2 V c 0 t) (iblk2 V c 2 t) (iblk2 V c 3 t) (iblk2 V c 4 t) acc
      = sharedPart Y (V c main_call0_v3_1) (V c main_arg6) (V c main_arg7) (V c main_arg8) (t.val + 1) := by
  funext i
  rw [sharedPart_succ, shOut_apply, hacc]
  refine congrArg (sharedPart Y (V c main_call0_v3_1) (V c main_arg6) (V c main_arg7) (V c main_arg8) t.val i + ·) (Finset.sum_congr rfl fun n _ => ?_)
  have hn : t.val * 256 + n.val < 2048 := (unit2 t n).isLt
  unfold sharedTerm
  rw [dif_pos hn]
  have h4 := iblk2_4_apply V c t (i 1) n
  have h2 := fun k => iblk2_2_apply V c t n k
  have h3 := fun k => iblk2_3_apply V c t n k
  rw [iblk2_0_eq]
  exact congrArg₂ (· * ·) (congrArg₂ (neuron _) (funext h2) (funext h3)) h4

/-- The running total of blocks after point `n`. -/
theorem outsAt2_eq (c : Dev nD) : ∀ (n : ℕ) (hn : n < cfg2.N), outsAt2 V c n hn
      = sharedPart (V c main_call0_v4) (V c main_call0_v3_1) (V c main_arg6) (V c main_arg7) (V c main_arg8) (n + 1)
  | 0, hn => by
    have hy : k2_pay2 (F := Ideal) (View.ld (Val := Elt Ideal) (e' := .f32) (iblk2 V c 1 ⟨0, hn⟩) rAll)
        = sharedPart (V c main_call0_v4) (V c main_call0_v3_1) (V c main_arg6) (V c main_arg7) (V c main_arg8) 0 := by
      rw [ld_all, iblk2_1_eq]
      funext y; unfold sharedPart
      rw [Finset.range_zero, Finset.sum_empty, add_zero]
      idx_vars y
      pointwise [k2_pay2]
    exact shOut_point V c ⟨0, hn⟩ _ _ hy
  | n + 1, hn => shOut_point V c ⟨n + 1, hn⟩ _ _ (outsAt2_eq c n _)

/-- The last point. -/
abbrev last2 : Fin cfg2.N := ⟨7, by decide⟩

/-- After the shared expert: the routed sum plus the shared expert's. -/
theorem shared_array (c : Dev nD) : (dat2 V c).arrAt 5 cfg2.N
    = sharedSum (V c main_call0_v4) (V c main_call0_v3_1) (V c main_arg6) (V c main_arg7) (V c main_arg8) := by
  refine (dat2 V c).arrAt_eq_of_cover 5 (sharedSum (V c main_call0_v4) (V c main_call0_v3_1) (V c main_arg6) (V c main_arg7) (V c main_arg8)) ?_ ?_
  · intro t hf
    have hi := idx2_5 t
    have h7 : t.val = 7 := by have := (flush2_5 t).1 hf; have : t.val < 8 := t.isLt; omega
    funext y
    refine (congrFun (after2_5 V c t) y).trans ?_
    rw [outsAt2_eq, h7, sharedPart_all, View.read_apply]
    show sharedSum _ _ _ _ _ y = sharedSum _ _ _ _ _ (((cfg2.win 5).blk t).view.emb y)
    congr 1; funext a; apply Fin.ext
    match a with
    | ⟨0, _⟩ => show (y 0).val = win2_5.index t 0 * 2048 + 1 * (y 0).val; rw [hi]; show _ = 0 * 2048 + 1 * (y 0).val; omega
    | ⟨1, _⟩ => show (y 1).val = win2_5.index t 1 * 2048 + 1 * (y 1).val; rw [hi]; show _ = 0 * 2048 + 1 * (y 1).val; omega
  · intro i
    refine ⟨last2, (flush2_5 _).2 rfl, ?_⟩
    have hi := idx2_5 last2
    show i ∈ ((View.whole main_call0_v5).slice (win2_5.rect last2)).set
    rw [View.set_slice_whole, Rect.mem_set_unit]
    intro a
    match a with
    | ⟨0, _⟩ =>
      show win2_5.index last2 0 * 2048 ≤ (i 0).val ∧ (i 0).val < win2_5.index last2 0 * 2048 + 2048
      rw [hi]; have : (i 0).val < 2048 := (i 0).isLt; show 0 * 2048 ≤ _ ∧ _ < 0 * 2048 + 2048; omega
    | ⟨1, _⟩ =>
      show win2_5.index last2 1 * 2048 ≤ (i 1).val ∧ (i 1).val < win2_5.index last2 1 * 2048 + 2048
      rw [hi]; have : (i 1).val < 2048 := (i 1).isLt; show 0 * 2048 ≤ _ ∧ _ < 0 * 2048 + 2048; omega

end Cert.KernelIdeal.Moe

end
-- ==== Proof.RoutedValue.lean ====
/- What the routed experts add: a block of a group's units at each point, and their array after the last. -/
module

public import proofs.«01_k».proof.Proof.Routed
public import proofs.«01_k».proof.Proof.SharedValue
public import Idealize.ShloMosaic.Lib.Pipeline.ValueKit
public import Idealize.ShloMosaic.Lib.Pointwise

@[expose] public section

set_option maxRecDepth 16384

noncomputable section

namespace Cert.KernelIdeal.Moe

open Cert.KernelIdeal.Gen Cert.Moe
open Idealize.ShloMosaic Idealize.ShloMosaic.TcCoe
open Idealize.SL Idealize.SL.RA Idealize.SL.Sem
open Idealize.ShloMosaic.Pipeline (Dat Cfg Window)

/-! ## One point -/

/-- One half's new rows, first half: what was there, plus the block of units times the row's scalar. -/
theorem rt_lo_apply (wg wu : FVec Ideal S1x256x2048 .f32) (wd : FVec Ideal S1x2048x256 .f32) (x : FVec Ideal S1024x2048 .bf16)
    (s : FVec Ideal S1x1024x1 .f32) (acc : FVec Ideal S1024x2048 .f32) (r : Fin 1024) (h : Fin 2048) :
    k1_pay1 (F := Ideal) (k1_pay7 wd) (k1_pay8 wg wu x) s acc (ix2 r h)
      = acc (ix2 r h) + ∑ n : Fin 256, neuron (fun k => x (ix2 r k)) (fun k => wg (ix3 0 n k)) (fun k => wu (ix3 0 n k)) * s (ix3 0 r 0)
          * wd (ix3 0 h n) := by
  unfold neuron
  pointwise [k1_pay1, k1_pay7, k1_pay8, k1_pay5, k1_pay6]

/-- The second half's new rows: the same. -/
theorem rt_hi_apply (wg wu : FVec Ideal S1x256x2048 .f32) (wd : FVec Ideal S1x2048x256 .f32) (x : FVec Ideal S1024x2048 .bf16)
    (s : FVec Ideal S1x1024x1 .f32) (acc : FVec Ideal S1024x2048 .f32) (r : Fin 1024) (h : Fin 2048) :
    k1_pay2 (F := Ideal) (k1_pay5 wg) (k1_pay6 wu) (k1_pay7 wd) x s acc (ix2 r h)
      = acc (ix2 r h) + ∑ n : Fin 256, neuron (fun k => x (ix2 r k)) (fun k => wg (ix3 0 n k)) (fun k => wu (ix3 0 n k)) * s (ix3 0 r 0)
          * wd (ix3 0 h n) := by
  unfold neuron
  pointwise [k1_pay2, k1_pay7, k1_pay5, k1_pay6]

/-- The group's modulated tokens: the token plus its sixteen weights' product with the modulation. -/
theorem rtScr_apply (x : FVec Ideal S2048x2048 .bf16) (sel : FVec Ideal S1x2048x32 .f32) (M : FVec Ideal S2048x16 .f32)
    (t h : Fin 2048) : rtScr (F := Ideal) x sel M (ix2 t h)
      = x (ix2 t h) + ∑ e : Fin 16, sel (ix3 0 t ⟨e.val, by omega⟩) * M (ix2 h e) := by
  unfold rtScr
  rw [show View.ld (Val := Elt Ideal) (e' := .bf16) x rAll = x from View.ld_unit_zero off2 _ _,
    show View.ld (Val := Elt Ideal) (e' := .f32) M rM = M from View.ld_unit_zero off2 _ _]
  pointwise [k1_pay4]

/-- What a point leaves: what was there, plus its block of units. -/
theorem rtOut_apply (sel : FVec Ideal S1x2048x32 .f32) (wg wu : FVec Ideal S1x256x2048 .f32) (wd : FVec Ideal S1x2048x256 .f32)
    (x : FVec Ideal S2048x2048 .bf16) (acc : FVec Ideal S2048x2048 .f32) : rtOut (F := Ideal) sel wg wu wd x acc = fun i => acc i
      + ∑ n : Fin 256, neuron (fun k => x (ix2 (i 0) k)) (fun k => wg (ix3 0 n k)) (fun k => wu (ix3 0 n k)) * sel (ix3 0 (i 0) 16)
          * wd (ix3 0 (i 1) n) := by
  have off3 : (![0, 0, 0] : Fin 3 → ℕ) = fun _ => 0 := funext fun a => by fin_cases a <;> rfl
  have hg : View.ld (Val := Elt Ideal) (e' := .f32) wg rG = wg := View.ld_unit_zero off3 _ _
  have hu : View.ld (Val := Elt Ideal) (e' := .f32) wu rG = wu := View.ld_unit_zero off3 _ _
  have hd : View.ld (Val := Elt Ideal) (e' := .f32) wd rD3 = wd := View.ld_unit_zero off3 _ _
  unfold rtOut
  rw [hg, hu, hd]
  have key : ∀ (z : S2048x2048.Idx) (f : Fin 2048 → S2048x2048.Idx) (h : Fin 2048) (s : EReal), (∀ k, f k = ix2 (z 0) k) → h = z 1 →
      s = sel (ix3 0 (z 0) 16) →
      acc z + ∑ n : Fin 256, neuron (fun k => x (f k)) (fun k => wg (ix3 0 n k)) (fun k => wu (ix3 0 n k)) * s * wd (ix3 0 h n)
        = acc z + ∑ n : Fin 256, neuron (fun k => x (ix2 (z 0) k)) (fun k => wg (ix3 0 n k)) (fun k => wu (ix3 0 n k)) * sel (ix3 0 (z 0) 16)
            * wd (ix3 0 (z 1) n) := by
    intro z f h s hf hh hs
    obtain rfl : f = fun k => ix2 (z 0) k := funext hf
    subst hh hs; rfl
  refine halves_apply _ _ _ (fun y => ?_) (fun y => ?_)
  · rw [eq_ix2 y]
    refine (rt_hi_apply wg wu wd _ _ _ (y 0) (y 1)).trans ?_
    refine key (rHi.emb (ix2 (y 0) (y 1))) (fun k => rHi.emb (ix2 (y 0) k)) (y 1) _ (fun k => ?_) ?_ ?_
    · exact hi_row (y 0) (y 1) k
    · exact hi_col (y 0) (y 1)
    · show sel (rSHi.emb (ix3 0 (y 0) 0)) = _
      congr 1; funext a; apply Fin.ext
      match a with
      | ⟨0, _⟩ => rfl
      | ⟨1, _⟩ => rfl
      | ⟨2, _⟩ => rfl
  · rw [eq_ix2 y]
    refine (rt_lo_apply wg wu wd _ _ _ (y 0) (y 1)).trans ?_
    refine key (rLo.emb (ix2 (y 0) (y 1))) (fun k => rLo.emb (ix2 (y 0) k)) (y 1) _ (fun k => ?_) ?_ ?_
    · exact lo_row (y 0) (y 1) k
    · exact lo_col (y 0) (y 1)
    · show sel (rSLo.emb (ix3 0 (y 0) 0)) = _
      congr 1; funext a; apply Fin.ext
      match a with
      | ⟨0, _⟩ => rfl
      | ⟨1, _⟩ => rfl
      | ⟨2, _⟩ => rfl

/-! ## The blocks -/

variable (V : (c : Dev nD) → (b : Ref sig .tc) → Buf (Elt Ideal) ((c : Thread nD τ).loc b))

theorem idx1_0 : ∀ t : Fin grid1.N, win1_0.index t = ![0, 0] := by decide +kernel
theorem idx1_1 : ∀ t : Fin grid1.N, win1_1.index t = ![t.val / 4, 0, 0] := by decide +kernel
theorem idx1_2 : ∀ t : Fin grid1.N, win1_2.index t = ![0, 0] := by decide +kernel
theorem idx1_3 : ∀ t : Fin grid1.N, win1_3.index t = ![t.val / 4, t.val % 4, 0] := by decide +kernel
theorem idx1_4 : ∀ t : Fin grid1.N, win1_4.index t = ![t.val / 4, t.val % 4, 0] := by decide +kernel
theorem idx1_5 : ∀ t : Fin grid1.N, win1_5.index t = ![t.val / 4, 0, t.val % 4] := by decide +kernel
theorem idx1_6 : ∀ t : Fin grid1.N, win1_6.index t = ![0, 0] := by decide +kernel

/-- The group a number counts into, at `m` numbers per group. -/
def groupOf (n : ℕ) (h : n < 16) : Fin 4 := ⟨n / 4, by omega⟩

/-- The group of point `t`. -/
abbrev group1 (t : Fin cfg1.N) : Fin 4 := groupOf t.val t.isLt

/-- Unit `n` of point `t`'s block, in its group. -/
def unit1 (t : Fin cfg1.N) (n : Fin 256) : Fin 1024 := ⟨t.val % 4 * 256 + n.val, by omega⟩

/-- The tokens are read whole. -/
theorem iblk1_0_eq (c : Dev nD) (t : Fin cfg1.N) : iblk1 V c 0 t = V c main_call0_v3_1 := by
  have hi := idx1_0 t
  funext y
  unfold iblk1; rw [View.read_apply]
  show V c main_call0_v3_1 _ = _
  congr 1; funext a; apply Fin.ext
  match a with
  | ⟨0, _⟩ => show win1_0.index t 0 * 2048 + 1 * (y 0).val = (y 0).val; rw [hi]; show 0 * 2048 + 1 * (y 0).val = _; omega
  | ⟨1, _⟩ => show win1_0.index t 1 * 2048 + 1 * (y 1).val = (y 1).val; rw [hi]; show 0 * 2048 + 1 * (y 1).val = _; omega

/-- The modulation is read whole. -/
theorem iblk1_2_eq (c : Dev nD) (t : Fin cfg1.N) : iblk1 V c 2 t = V c main_call0_v2 := by
  have hi := idx1_2 t
  funext y
  unfold iblk1; rw [View.read_apply]
  show V c main_call0_v2 _ = _
  congr 1; funext a; apply Fin.ext
  match a with
  | ⟨0, _⟩ => show win1_2.index t 0 * 2048 + 1 * (y 0).val = (y 0).val; rw [hi]; show 0 * 2048 + 1 * (y 0).val = _; omega
  | ⟨1, _⟩ => show win1_2.index t 1 * 16 + 1 * (y 1).val = (y 1).val; rw [hi]; show 0 * 16 + 1 * (y 1).val = _; omega

/-- The group's plane. -/
theorem iblk1_1_apply (c : Dev nD) (t : Fin cfg1.N) (r : Fin 2048) (j : Fin 32) :
    iblk1 V c 1 t (ix3 0 r j) = V c main_call0_v3_0 (ix3 (group1 t) r j) := by
  have hi := idx1_1 t
  unfold iblk1; rw [View.read_apply]
  show V c main_call0_v3_0 _ = _
  congr 1; funext a; apply Fin.ext
  match a with
  | ⟨0, _⟩ => show win1_1.index t 0 * 1 + 1 * 0 = t.val / 4; rw [hi]; show t.val / 4 * 1 + 1 * 0 = _; omega
  | ⟨1, _⟩ => show win1_1.index t 1 * 2048 + 1 * r.val = r.val; rw [hi]; show 0 * 2048 + 1 * r.val = _; omega
  | ⟨2, _⟩ => show win1_1.index t 2 * 32 + 1 * j.val = j.val; rw [hi]; show 0 * 32 + 1 * j.val = _; omega

/-- The gate's block of units. -/
theorem iblk1_3_apply (c : Dev nD) (t : Fin cfg1.N) (n : Fin 256) (k : Fin 2048) :
    iblk1 V c 3 t (ix3 0 n k) = V c main_arg2 (ix3 (group1 t) (unit1 t n) k) := by
  have hi := idx1_3 t
  unfold iblk1; rw [View.read_apply]
  show V c main_arg2 _ = _
  congr 1; funext a; apply Fin.ext
  match a with
  | ⟨0, _⟩ => show win1_3.index t 0 * 1 + 1 * 0 = t.val / 4; rw [hi]; show t.val / 4 * 1 + 1 * 0 = _; omega
  | ⟨1, _⟩ => show win1_3.index t 1 * 256 + 1 * n.val = t.val % 4 * 256 + n.val; rw [hi]; show t.val % 4 * 256 + 1 * n.val = _; omega
  | ⟨2, _⟩ => show win1_3.index t 2 * 2048 + 1 * k.val = k.val; rw [hi]; show 0 * 2048 + 1 * k.val = _; omega

/-- The other product's block of units. -/
theorem iblk1_4_apply (c : Dev nD) (t : Fin cfg1.N) (n : Fin 256) (k : Fin 2048) :
    iblk1 V c 4 t (ix3 0 n k) = V c main_arg3 (ix3 (group1 t) (unit1 t n) k) := by
  have hi := idx1_4 t
  unfold iblk1; rw [View.read_apply]
  show V c main_arg3 _ = _
  congr 1; funext a; apply Fin.ext
  match a with
  | ⟨0, _⟩ => show win1_4.index t 0 * 1 + 1 * 0 = t.val / 4; rw [hi]; show t.val / 4 * 1 + 1 * 0 = _; omega
  | ⟨1, _⟩ => show win1_4.index t 1 * 256 + 1 * n.val = t.val % 4 * 256 + n.val; rw [hi]; show t.val % 4 * 256 + 1 * n.val = _; omega
  | ⟨2, _⟩ => show win1_4.index t 2 * 2048 + 1 * k.val = k.val; rw [hi]; show 0 * 2048 + 1 * k.val = _; omega

/-- The closing product's block of units. -/
theorem iblk1_5_apply (c : Dev nD) (t : Fin cfg1.N) (h : Fin 2048) (n : Fin 256) :
    iblk1 V c 5 t (ix3 0 h n) = V c main_arg4 (ix3 (group1 t) h (unit1 t n)) := by
  have hi := idx1_5 t
  unfold iblk1; rw [View.read_apply]
  show V c main_arg4 _ = _
  congr 1; funext a; apply Fin.ext
  match a with
  | ⟨0, _⟩ => show win1_5.index t 0 * 1 + 1 * 0 = t.val / 4; rw [hi]; show t.val / 4 * 1 + 1 * 0 = _; omega
  | ⟨1, _⟩ => show win1_5.index t 1 * 2048 + 1 * h.val = h.val; rw [hi]; show 0 * 2048 + 1 * h.val = _; omega
  | ⟨2, _⟩ => show win1_5.index t 2 * 256 + 1 * n.val = t.val % 4 * 256 + n.val; rw [hi]; show t.val % 4 * 256 + 1 * n.val = _; omega

/-! ## All the points -/

/-- The tokens `X` modulated for group `g`: each plus its sixteen weights' product with the modulation. -/
def modulated (X : S2048x2048.Idx → EReal) (sel : S4x2048x32.Idx → EReal) (M : S2048x16.Idx → EReal) (g : Fin 4)
    (i : S2048x2048.Idx) : EReal :=
  X i + ∑ e : Fin 16, sel (ix3 g (i 0) ⟨e.val, by omega⟩) * M (ix2 (i 1) e)

/-- The scratch holds the modulated tokens of the point's group. -/
theorem scrAt_eq (c : Dev nD) : ∀ (n : ℕ) (hn : n < cfg1.N), scrAt V c n hn
    = modulated (V c main_call0_v3_1) (V c main_call0_v3_0) (V c main_call0_v2) (groupOf n hn) := by
  have new : ∀ t : Fin cfg1.N, rtScr (F := Ideal) (iblk1 V c 0 t) (iblk1 V c 1 t) (iblk1 V c 2 t)
      = modulated (V c main_call0_v3_1) (V c main_call0_v3_0) (V c main_call0_v2) (group1 t) := fun t => by
    funext i
    rw [eq_ix2 i]
    refine (rtScr_apply _ _ _ (i 0) (i 1)).trans ?_
    unfold modulated
    rw [iblk1_0_eq, iblk1_2_eq]
    refine congrArg₂ (fun a b : EReal => a + b) rfl (Finset.sum_congr rfl fun e _ => congrArg₂ (fun a b : EReal => a * b) ?_ rfl)
    exact iblk1_1_apply V c t (i 0) ⟨e.val, by omega⟩
  intro n
  induction n with
  | zero => intro hn; exact new ⟨0, hn⟩
  | succ n ih =>
    intro hn
    by_cases h : (n + 1) % 4 = 0
    · exact (scrAt_new V c ⟨n + 1, hn⟩ h).trans (new ⟨n + 1, hn⟩)
    · refine (scrAt_old V c ⟨n + 1, hn⟩ h).trans ((ih _).trans ?_)
      congr 1
      exact Fin.ext (by show n / 4 = (n + 1) / 4; omega)

/-- Unit `n` of all four groups' units together (1024 to a group): its product with the token's scalar and the closing
    weight; zero past the last unit. -/
def routedTerm (X : S2048x2048.Idx → EReal) (sel : S4x2048x32.Idx → EReal) (M : S2048x16.Idx → EReal)
    (wg wu : S4x1024x2048.Idx → EReal) (wd : S4x2048x1024.Idx → EReal) (i : S2048x2048.Idx) (n : ℕ) : EReal :=
  if hn : n < 4096 then
    neuron (fun k => modulated X sel M ⟨n / 1024, by omega⟩ (ix2 (i 0) k)) (fun k => wg (ix3 ⟨n / 1024, by omega⟩ ⟨n % 1024, by omega⟩ k))
      (fun k => wu (ix3 ⟨n / 1024, by omega⟩ ⟨n % 1024, by omega⟩ k)) * sel (ix3 ⟨n / 1024, by omega⟩ (i 0) 16)
      * wd (ix3 ⟨n / 1024, by omega⟩ (i 1) ⟨n % 1024, by omega⟩)
  else 0

/-- A unit's term, by its group and its number in the group. -/
theorem routedTerm_at (X : S2048x2048.Idx → EReal) (sel : S4x2048x32.Idx → EReal) (M : S2048x16.Idx → EReal)
    (wg wu : S4x1024x2048.Idx → EReal) (wd : S4x2048x1024.Idx → EReal) (i : S2048x2048.Idx) (g : Fin 4) (u : Fin 1024) (n : ℕ)
    (h : n = g.val * 1024 + u.val) : routedTerm X sel M wg wu wd i n
      = neuron (fun k => modulated X sel M g (ix2 (i 0) k)) (fun k => wg (ix3 g u k)) (fun k => wu (ix3 g u k)) * sel (ix3 g (i 0) 16)
          * wd (ix3 g (i 1) u) := by
  subst h
  have hn : g.val * 1024 + u.val < 4096 := by omega
  have eg : (⟨(g.val * 1024 + u.val) / 1024, by omega⟩ : Fin 4) = g := Fin.ext (by show (g.val * 1024 + u.val) / 1024 = g.val; omega)
  have eu : (⟨(g.val * 1024 + u.val) % 1024, by omega⟩ : Fin 1024) = u := Fin.ext (by show (g.val * 1024 + u.val) % 1024 = u.val; omega)
  unfold routedTerm
  rw [dif_pos hn, eg, eu]

/-- The first `m` blocks of 256 units. -/
def routedPart (X : S2048x2048.Idx → EReal) (sel : S4x2048x32.Idx → EReal) (M : S2048x16.Idx → EReal)
    (wg wu : S4x1024x2048.Idx → EReal) (wd : S4x2048x1024.Idx → EReal) (m : ℕ) (i : S2048x2048.Idx) : EReal :=
  ∑ b ∈ Finset.range m, ∑ j : Fin 256, routedTerm X sel M wg wu wd i (b * 256 + j.val)

/-- The routed experts' sum: over the groups, over the group's units. -/
def routedSum (X : S2048x2048.Idx → EReal) (sel : S4x2048x32.Idx → EReal) (M : S2048x16.Idx → EReal)
    (wg wu : S4x1024x2048.Idx → EReal) (wd : S4x2048x1024.Idx → EReal) (i : S2048x2048.Idx) : EReal :=
  ∑ g : Fin 4, ∑ u : Fin 1024, neuron (fun k => modulated X sel M g (ix2 (i 0) k)) (fun k => wg (ix3 g u k)) (fun k => wu (ix3 g u k))
    * sel (ix3 g (i 0) 16) * wd (ix3 g (i 1) u)

/-- Sixteen blocks are all four groups. -/
theorem routedPart_all (X : S2048x2048.Idx → EReal) (sel : S4x2048x32.Idx → EReal) (M : S2048x16.Idx → EReal)
    (wg wu : S4x1024x2048.Idx → EReal) (wd : S4x2048x1024.Idx → EReal) : routedPart X sel M wg wu wd 16 = routedSum X sel M wg wu wd := by
  funext i
  unfold routedPart routedSum
  rw [sum_blocks 16 256, show 16 * 256 = 4 * 1024 from rfl, ← sum_blocks 4 1024, Finset.sum_range]
  exact Finset.sum_congr rfl fun g _ => Finset.sum_congr rfl fun u _ => routedTerm_at X sel M wg wu wd i g u _ rfl

/-- A point adds its block of terms to what was there. -/
theorem rtOut_point (c : Dev nD) (t : Fin cfg1.N) (acc : FVec Ideal S2048x2048 .f32)
    (hacc : acc = routedPart (V c main_call0_v3_1) (V c main_call0_v3_0) (V c main_call0_v2) (V c main_arg2) (V c main_arg3) (V c main_arg4) t.val) :
    rtOut (F := Ideal) (iblk1 V c 1 t) (iblk1 V c 3 t) (iblk1 V c 4 t) (iblk1 V c 5 t) (scrAt V c t.val t.isLt) acc
      = routedPart (V c main_call0_v3_1) (V c main_call0_v3_0) (V c main_call0_v2) (V c main_arg2) (V c main_arg3) (V c main_arg4) (t.val + 1) := by
  funext i
  rw [rtOut_apply, hacc, scrAt_eq]
  unfold routedPart
  rw [Finset.sum_range_succ]
  refine congrArg (_ + ·) (Finset.sum_congr rfl fun n _ => ?_)
  rw [routedTerm_at _ _ _ _ _ _ i (group1 t) (unit1 t n) _ (by show t.val * 256 + n.val = t.val / 4 * 1024 + (t.val % 4 * 256 + n.val); omega)]
  have h1 := iblk1_1_apply V c t (i 0) 16
  have h3 := fun k => iblk1_3_apply V c t n k
  have h4 := fun k => iblk1_4_apply V c t n k
  have h5 := iblk1_5_apply V c t (i 1) n
  exact congrArg₂ (· * ·) (congrArg₂ (· * ·) (congrArg₂ (neuron _) (funext h3) (funext h4)) h1) h5

/-- The running total of blocks after point `n`. -/
theorem outsAt1_eq (c : Dev nD) : ∀ (n : ℕ) (hn : n < cfg1.N), outsAt1 V c n hn
      = routedPart (V c main_call0_v3_1) (V c main_call0_v3_0) (V c main_call0_v2) (V c main_arg2) (V c main_arg3) (V c main_arg4) (n + 1)
  | 0, hn => by
    have hy : k1_pay3 (F := Ideal)
        = routedPart (V c main_call0_v3_1) (V c main_call0_v3_0) (V c main_call0_v2) (V c main_arg2) (V c main_arg3) (V c main_arg4) 0 := by
      funext y; unfold routedPart
      rw [Finset.range_zero, Finset.sum_empty]
      idx_vars y
      pointwise [k1_pay3]
    exact rtOut_point V c ⟨0, hn⟩ _ hy
  | n + 1, hn => rtOut_point V c ⟨n + 1, hn⟩ _ (outsAt1_eq c n _)

/-- The last point. -/
abbrev last1 : Fin cfg1.N := ⟨15, by decide⟩

/-- After the routed experts: their sum. -/
theorem routed_array (c : Dev nD) : (dat1 V c).arrAt 6 cfg1.N
    = routedSum (V c main_call0_v3_1) (V c main_call0_v3_0) (V c main_call0_v2) (V c main_arg2) (V c main_arg3) (V c main_arg4) := by
  refine (dat1 V c).arrAt_eq_of_cover 6
    (routedSum (V c main_call0_v3_1) (V c main_call0_v3_0) (V c main_call0_v2) (V c main_arg2) (V c main_arg3) (V c main_arg4)) ?_ ?_
  · intro t hf
    have hi := idx1_6 t
    have h15 : t.val = 15 := by have := (flush1_6 t).1 hf; have : t.val < 16 := t.isLt; omega
    funext y
    refine (congrFun (after1_6 V c t) y).trans ?_
    rw [outsAt1_eq, h15, routedPart_all, View.read_apply]
    show routedSum _ _ _ _ _ _ y = routedSum _ _ _ _ _ _ (((cfg1.win 6).blk t).view.emb y)
    congr 1; funext a; apply Fin.ext
    match a with
    | ⟨0, _⟩ => show (y 0).val = win1_6.index t 0 * 2048 + 1 * (y 0).val; rw [hi]; show _ = 0 * 2048 + 1 * (y 0).val; omega
    | ⟨1, _⟩ => show (y 1).val = win1_6.index t 1 * 2048 + 1 * (y 1).val; rw [hi]; show _ = 0 * 2048 + 1 * (y 1).val; omega
  · intro i
    refine ⟨last1, (flush1_6 _).2 rfl, ?_⟩
    have hi := idx1_6 last1
    show i ∈ ((View.whole main_call0_v4).slice (win1_6.rect last1)).set
    rw [View.set_slice_whole, Rect.mem_set_unit]
    intro a
    match a with
    | ⟨0, _⟩ =>
      show win1_6.index last1 0 * 2048 ≤ (i 0).val ∧ (i 0).val < win1_6.index last1 0 * 2048 + 2048
      rw [hi]; have : (i 0).val < 2048 := (i 0).isLt; show 0 * 2048 ≤ _ ∧ _ < 0 * 2048 + 2048; omega
    | ⟨1, _⟩ =>
      show win1_6.index last1 1 * 2048 ≤ (i 1).val ∧ (i 1).val < win1_6.index last1 1 * 2048 + 2048
      rw [hi]; have : (i 1).val < 2048 := (i 1).isLt; show 0 * 2048 ≤ _ ∧ _ < 0 * 2048 + 2048; omega

end Cert.KernelIdeal.Moe

end
-- ==== Proof.RouteValue.lean ====
/- What the routing kernel's block holds, entry by entry: the probabilities, the chosen experts, and a group's plane. -/
module

public import proofs.«01_k».proof.Proof.Row
public import proofs.«01_k».proof.Proof.Route
public import Idealize.ShloMosaic.Lib.Pointwise

@[expose] public section

set_option maxRecDepth 16384

noncomputable section

namespace Cert.KernelIdeal.Moe

open Cert.KernelIdeal.Gen Cert.Moe
open Idealize.ShloMosaic

/-- A row's sixteen scores: the products of the token with the gate's rows. -/
def logits {n : ℕ} (x : FVec Ideal ⟨2, ![n, 2048]⟩ .f32) (w : FVec Ideal S16x2048 .f32) (r : Fin n) (e : Fin 16) : EReal :=
  ∑ k : Fin 2048, x (ix2 r k) * w (ix2 e k)

/-- The block's probabilities are the softmax of the scores. -/
theorem pay4_apply (x : FVec Ideal S512x2048 .f32) (w : FVec Ideal S16x2048 .f32) (r : Fin 512) (e : Fin 16) :
    k0_pay4 (F := Ideal) x w (ix2 r e) = soft (logits x w r) e := by
  unfold soft top logits
  pointwise [k0_pay4, k0_pay2]
  simp only [ofBits_neg_inf]

/-- The quotient of an expert's number by four, as the block computes it. -/
theorem quot_apply (r : Fin 512) (e : Fin 16) :
    k0_pay20 (iota .tc S512x16 32 [1] iota_S512x16_d1_w32) (ix2 r e) = BitVec.ofNat 32 (e.val / 4) := by
  pointwise [k0_pay20]
  revert e; decide

/-- The first round's row maximum and number, over a row of values. -/
theorem pick_apply (f : FVec Ideal S512x16 .f32) (r : Fin 512) :
    multiReductionI .minsi [1] S512 (select (cmpf .oeq f (broadcastTo S512x16 (shapeCast S512x1
      (multiReduction .maximumf [1] S512 f 0xFF800000#32 reduces_S512x16_S512 (.inl rfl) rfl) shapeCasts_S512_S512x1)
        broadcasts_S512x1_S512x16)) (iota .tc S512x16 32 [1] iota_S512x16_d1_w32) (broadcast S512x16 16#32))
        2147483647#32 reduces_S512x16_S512 rfl (ix1 r) = pick fun e => f (ix2 r e) := by
  unfold pick top
  pointwise
  simp only [ofBits_neg_inf]

/-- A selection on a decided bit. -/
theorem select_ofBool {α : Type} (c : Prop) [Decidable c] (a b : α) :
    Scalar.select (BitVec.ofBool (decide c)) a b = if c then a else b := by
  by_cases h : c <;> simp [Scalar.select, h]

/-- The conjunction of two decided bits. -/
theorem andi_ofBool (c d : Prop) [Decidable c] [Decidable d] :
    IntOp.andi (BitVec.ofBool (decide c)) (BitVec.ofBool (decide d)) = BitVec.ofBool (decide (c ∧ d)) := by
  by_cases h : c <;> by_cases h' : d <;> simp [IntOp.andi, h, h']

/-- The disjunction of two decided bits. -/
theorem ori_ofBool (c d : Prop) [Decidable c] [Decidable d] :
    IntOp.ori (BitVec.ofBool (decide c)) (BitVec.ofBool (decide d)) = BitVec.ofBool (decide (c ∨ d)) := by
  by_cases h : c <;> by_cases h' : d <;> simp [IntOp.ori, h, h']

/-- Each row's pick, marked along the row. -/
def mark (f : FVec Ideal S512x16 .f32) : IVec S512x16 1 :=
  cmpi .eq (iota .tc S512x16 32 [1] iota_S512x16_d1_w32) (broadcastTo S512x16 (shapeCast S512x1
    (multiReductionI .minsi [1] S512 (select (cmpf .oeq f (broadcastTo S512x16 (shapeCast S512x1
      (multiReduction .maximumf [1] S512 f 0xFF800000#32 reduces_S512x16_S512 (.inl rfl) rfl) shapeCasts_S512_S512x1)
        broadcasts_S512x1_S512x16)) (iota .tc S512x16 32 [1] iota_S512x16_d1_w32) (broadcast S512x16 16#32))
        2147483647#32 reduces_S512x16_S512 rfl) shapeCasts_S512_S512x1) broadcasts_S512x1_S512x16)

/-- The mark stands where the expert's number is the row's pick. -/
theorem mark_apply (f : FVec Ideal S512x16 .f32) (r : Fin 512) (e : Fin 16) :
    mark f (ix2 r e) = BitVec.ofBool (decide (BitVec.ofNat 32 e.val = pick fun k => f (ix2 r k))) := by
  have h : mark f (ix2 r e) = IntOp.cmpi .eq (BitVec.ofNat 32 e.val) (pick fun k => f (ix2 r k)) := by
    rw [← pick_apply]
    unfold mark
    generalize hm : multiReductionI .minsi ([1] : List (Fin S512x16.rank)) S512 (select (cmpf .oeq f _) _ _) 2147483647#32 reduces_S512x16_S512 rfl = m
    pointwise
  rw [h]
  simp only [IntOp.cmpi]
  rw [Bool.beq_eq_decide_eq]

/-- The chosen experts are the first two rounds' marks. -/
theorem pay5_eq (x : FVec Ideal S512x2048 .f32) (w : FVec Ideal S16x2048 .f32) :
    k0_pay5 (F := Ideal) x w = ori (mark (k0_pay4 x w))
      (mark (select (mark (k0_pay4 x w)) (broadcast S512x16 (Scalar.ofBits .f32 0xFF800000#32)) (k0_pay4 x w))) := rfl

/-- Where the block marks an expert as chosen. -/
theorem pay5_apply (x : FVec Ideal S512x2048 .f32) (w : FVec Ideal S16x2048 .f32) (r : Fin 512) (e : Fin 16)
    (hp : ∀ e, ⊥ < soft (logits x w r) e) :
    k0_pay5 (F := Ideal) x w (ix2 r e) = BitVec.ofBool (decide (Chosen (soft (logits x w r)) e)) := by
  have h0 : ∀ e, mark (k0_pay4 x w) (ix2 r e) = BitVec.ofBool (decide (e = place (soft (logits x w r)) 0)) := fun e => by
    rw [mark_apply, show (fun k => k0_pay4 (F := Ideal) x w (ix2 r k)) = soft (logits x w r) from funext (pay4_apply x w r), pick_first]
    simp only [ofNat_expert_inj]
  have hr : (fun k : Fin 16 => select (mark (k0_pay4 x w)) (broadcast S512x16 (Scalar.ofBits (F := Ideal) .f32 0xFF800000#32)) (k0_pay4 (F := Ideal) x w) (ix2 r k))
      = rest (soft (logits x w r)) := funext fun k => by
    show Scalar.select (mark (k0_pay4 x w) (ix2 r k)) (Ideal.ofBits .f32 0xFF800000#32) (k0_pay4 (F := Ideal) x w (ix2 r k)) = _
    rw [h0, ofBits_neg_inf, pay4_apply]
    unfold rest
    by_cases h : k = place (soft (logits x w r)) 0 <;> simp [Scalar.select, h]
  rw [pay5_eq]
  show IntOp.ori (mark (k0_pay4 x w) (ix2 r e)) (mark _ (ix2 r e)) = _
  rw [h0, mark_apply, hr, pick_second _ hp]
  simp only [ofNat_expert_inj]
  exact (ori_ofBool _ _).trans (congrArg BitVec.ofBool (decide_eq_decide.mpr Iff.rfl))

/-- A group's plane, from the mark of its members, the probabilities and the chosen experts: sixteen weights, the
    scalar, fifteen zeros. -/
def plane (gm : IVec S512x16 1) (p : FVec Ideal S512x16 .f32) (sel : IVec S512x16 1) : FVec Ideal S1x512x32 .f32 :=
  have zero : FVec Ideal S512x16 .f32 := broadcast S512x16 (Scalar.ofBits .f32 0x00000000#32)
  have sc : FVec Ideal S512 .f32 := multiReduction .add [1] S512 (select (andi gm sel) p zero) 0x00000000#32 reduces_S512x16_S512 (.inl rfl) rfl
  have fm : FVec Ideal S512x16 .f32 := select (andi gm sel) p (broadcast S512x16 (Scalar.ofBits .f32 0xCE6E6B28#32))
  have mx : FVec Ideal S512 .f32 := multiReduction .maximumf [1] S512 (select gm fm (broadcast S512x16 (Scalar.ofBits .f32 0xFF800000#32)))
    0xFF800000#32 reduces_S512x16_S512 (.inl rfl) rfl
  have ex : FVec Ideal S512x16 .f32 := select gm (exp (subf fm (broadcastTo S512x16 (shapeCast S512x1 mx shapeCasts_S512_S512x1) broadcasts_S512x1_S512x16))) zero
  have sm : FVec Ideal S512 .f32 := multiReduction .add [1] S512 ex 0x00000000#32 reduces_S512x16_S512 (.inl rfl) rfl
  shapeCast S1x512x32 (concatenate S512x32 1
    [⟨S512x16, divf ex (broadcastTo S512x16 (shapeCast S512x1 sm shapeCasts_S512_S512x1) broadcasts_S512x1_S512x16)⟩,
     ⟨S512x1, shapeCast S512x1 sc shapeCasts_S512_S512x1⟩, ⟨S512x15, k0_pay6 (F := Ideal)⟩]
    concatenates_S512x16_S512x1_S512x15_S512x32_d1) shapeCasts_S512x32_S1x512x32

/-- The mark of a group's members. -/
def gmark (w : BitVec 32) : IVec S512x16 1 :=
  cmpi .eq (k0_pay20 (iota .tc S512x16 32 [1] iota_S512x16_d1_w32)) (broadcast S512x16 w)

/-- The mark stands on a group's members. -/
theorem gmark_apply (g : Fin 4) (r : Fin 512) (e : Fin 16) :
    gmark (BitVec.ofNat 32 g.val) (ix2 r e) = BitVec.ofBool (decide (e.val / 4 = g.val)) := by
  show IntOp.cmpi .eq (k0_pay20 _ (ix2 r e)) (BitVec.ofNat 32 g.val) = _
  rw [quot_apply]
  revert g e; decide

/-- The four stores' payloads are the four groups' planes. -/
theorem planes_eq (p : FVec Ideal S512x16 .f32) (sel : IVec S512x16 1) :
    let v := iota .tc S512x16 32 [1] iota_S512x16_d1_w32
    k0_pay11 (k0_pay6 (F := Ideal)) (k0_pay8 p v sel 4#32) (k0_pay9 p v sel 4#32) (k0_pay10 p v sel 4#32) = plane (gmark 0#32) p sel
    ∧ k0_pay16 (k0_pay6 (F := Ideal)) (k0_pay12 v) (k0_pay13 p v sel) (k0_pay14 p v sel) (k0_pay15 p v sel) = plane (gmark 1#32) p sel
    ∧ k0_pay19 p sel (k0_pay6 (F := Ideal)) (k0_pay17 v) (k0_pay18 p v sel) = plane (gmark 2#32) p sel
    ∧ k0_pay1 p sel (k0_pay6 (F := Ideal)) (k0_pay20 v) = plane (gmark 3#32) p sel := ⟨rfl, rfl, rfl, rfl⟩

/-- What a group's plane holds in row `r`, column `j`: the mixing weights of its members, zero at the other experts,
    then the scalar, then zeros. -/
def planeRow (p : Fin 16 → EReal) (g : Fin 4) (j : Fin 32) : EReal :=
  if h : j.val < 16 then (if j.val / 4 = g.val then weight p g ⟨j.val % 4, by omega⟩ else 0)
  else if j.val < 17 then scal p g else 0

/-- A plane, entry by entry. -/
theorem plane_apply (p : FVec Ideal S512x16 .f32) (sel : IVec S512x16 1) (g : Fin 4) (r : Fin 512) (P : Fin 16 → EReal)
    (hP : ∀ e, p (ix2 r e) = P e) (hs : ∀ e, sel (ix2 r e) = BitVec.ofBool (decide (Chosen P e)))
    (hp : ∀ e, ∃ t : ℝ, 0 < t ∧ P e = (t : EReal)) (j : Fin 32) :
    plane (gmark (BitVec.ofNat 32 g.val)) p sel (ix3 0 r j) = planeRow P g j := by
  unfold plane
  pointwise [k0_pay6]
  simp only [hP, hs, gmark_apply, ofBits_neg_inf, andi_ofBool, select_ofBool]
  unfold planeRow
  by_cases hj : j.val < 16
  · rw [dif_pos hj, dif_pos hj]
    refine (soft_group P hp g (fun e => if e.val / 4 = g.val ∧ Chosen P e then P e else low) (fun i => ?_) ⟨j.val, hj⟩)
    have hi : (member g i).val / 4 = g.val := by simp only [member]; omega
    simp only [hi, true_and]
  · rw [dif_neg hj, dif_neg hj]
    have hz : ∀ e : Fin 16, (if e.val / 4 = g.val ∧ Chosen P e then P e else 0) = if e.val / 4 = g.val then flat P e else 0 := fun e => by
      unfold flat; by_cases h1 : e.val / 4 = g.val <;> by_cases h2 : Chosen P e <;> simp [h1, h2]
    simp only [hz, sum_group g (flat P)]
    by_cases h2 : j.val < 17
    · rw [dif_pos (by omega), if_pos h2]; rfl
    · rw [dif_neg (by omega), if_neg h2]

end Cert.KernelIdeal.Moe
-- ==== Proof.RouteArray.lean ====
/- What the router's two result arrays hold once its four points have written back. -/
module

public import proofs.«01_k».proof.Proof.RouteValue
public import proofs.«01_k».proof.Proof.Halves
public import Idealize.ShloMosaic.Lib.Pipeline.ValueKit

@[expose] public section

set_option maxRecDepth 16384

noncomputable section

namespace Cert.KernelIdeal.Moe

open Cert.KernelIdeal.Gen Cert.Moe
open Idealize.ShloMosaic Idealize.ShloMosaic.TcCoe
open Idealize.SL Idealize.SL.RA Idealize.SL.Sem
open Idealize.ShloMosaic.Pipeline (Dat Cfg Window)

/-! ## One block -/

/-- Every probability of a block's rows is positive. -/
abbrev PosRows {n : ℕ} (x : FVec Ideal ⟨2, ![n, 2048]⟩ .f32) (w : FVec Ideal S16x2048 .f32) : Prop :=
  ∀ r e, ∃ q : ℝ, 0 < q ∧ soft (logits x w r) e = (q : EReal)

/-- A group's plane is its part of the array of planes. -/
theorem plane_emb (x : FVec Ideal S512x2048 .f32) (w : FVec Ideal S16x2048 .f32) (h : PosRows (n := 512) x w) (g : Fin 4)
    (inb : ∀ a, (![g.val, 0, 0] : Fin 3 → ℕ) a + S1x512x32.size a ≤ S4x512x32.size a) (y : S1x512x32.Idx) :
    plane (gmark (BitVec.ofNat 32 g.val)) (k0_pay4 (F := Ideal) x w) (k0_pay5 (F := Ideal) x w) y
      = (fun i : S4x512x32.Idx => planeRow (soft (logits (n := 512) x w (i 1))) (i 0) (i 2))
          ((Rect.unit (s := S4x512x32) ![g.val, 0, 0] S1x512x32.size inb).emb y) := by
  have e0 : (Rect.unit (s := S4x512x32) ![g.val, 0, 0] S1x512x32.size inb).emb y 0 = g := Fin.ext (by
    rw [ValueKit.rect_emb_unit_val]; show g.val + (y 0).val = g.val; have : (y 0).val < 1 := (y 0).isLt; omega)
  have e1 : (Rect.unit (s := S4x512x32) ![g.val, 0, 0] S1x512x32.size inb).emb y 1 = y 1 := Fin.ext (by
    rw [ValueKit.rect_emb_unit_val]; show 0 + (y 1).val = (y 1).val; omega)
  have e2 : (Rect.unit (s := S4x512x32) ![g.val, 0, 0] S1x512x32.size inb).emb y 2 = y 2 := Fin.ext (by
    rw [ValueKit.rect_emb_unit_val]; show 0 + (y 2).val = (y 2).val; omega)
  show _ = planeRow (soft (logits (n := 512) x w ((Rect.unit (s := S4x512x32) ![g.val, 0, 0] S1x512x32.size inb).emb y 1)))
    ((Rect.unit (s := S4x512x32) ![g.val, 0, 0] S1x512x32.size inb).emb y 0) ((Rect.unit (s := S4x512x32) ![g.val, 0, 0] S1x512x32.size inb).emb y 2)
  rw [e0, e1, e2]
  have hy : y = ix3 0 (y 1) (y 2) := by
    funext a
    match a with
    | ⟨0, _⟩ => exact Fin.ext (by have : (y 0).val < 1 := (y 0).isLt; show (y 0).val = 0; omega)
    | ⟨1, _⟩ => rfl
    | ⟨2, _⟩ => rfl
  conv_lhs => rw [hy]
  have hb : ∀ e, ⊥ < soft (logits (n := 512) x w (y 1)) e := fun e => by
    obtain ⟨q, _, hq⟩ := h (y 1) e; rw [hq]; exact EReal.bot_lt_coe q
  exact plane_apply _ _ g (y 1) _ (fun e => pay4_apply x w (y 1) e) (fun e => pay5_apply x w (y 1) e hb) (h (y 1)) (y 2)

/-- The planes the body leaves, at an index: group `g`'s row of weights. -/
theorem out0_2_apply (x : FVec Ideal S512x2048 .f32) (w : FVec Ideal S16x2048 .f32) (h : PosRows (n := 512) x w)
    (y : S4x512x32.Idx) : out0_2 (F := Ideal) x w y = planeRow (soft (logits (n := 512) x w (y 1))) (y 0) (y 2) := by
  have hx : View.ld (Val := Elt Ideal) (e' := .f32) x r0_0 = x := View.ld_unit_zero off2 _ _
  have hw : View.ld (Val := Elt Ideal) (e' := .f32) w r0_1 = w := View.ld_unit_zero off2 _ _
  have hpl := planes_eq (k0_pay4 (F := Ideal) x w) (k0_pay5 (F := Ideal) x w)
  unfold out0_2 k0_pay21 k0_pay22 k0_pay23 k0_pay24
  rw [hx, hw, hpl.1, hpl.2.1, hpl.2.2.1, hpl.2.2.2]
  refine View.canon_apply_of_pieces (fun i : S4x512x32.Idx => planeRow (soft (logits (n := 512) x w (i 1))) (i 0) (i 2)) _ ?_ y
    (cover0_2 (F := Ideal) _ _ _ _ y)
  intro p hp
  simp only [List.mem_cons, List.not_mem_nil, or_false] at hp
  rcases hp with rfl | rfl | rfl | rfl
  · exact plane_emb x w h 3 inb_S4x512x32_S1x512x32_3_0_0
  · exact plane_emb x w h 2 inb_S4x512x32_S1x512x32_2_0_0
  · exact plane_emb x w h 1 inb_S4x512x32_S1x512x32_1_0_0
  · exact plane_emb x w h 0 inb_S4x512x32_S1x512x32_0_0_0

/-- The narrowed rows the body leaves are the rows. -/
theorem out0_3_eq (x : FVec Ideal S512x2048 .f32) (w : FVec Ideal S16x2048 .f32) : out0_3 (F := Ideal) x w = x := by
  have hx : View.ld (Val := Elt Ideal) (e' := .f32) x r0_0 = x := View.ld_unit_zero off2 _ _
  unfold out0_3
  rw [hx, View.canon_unit_zero off2]
  funext i
  idx_vars i
  pointwise [k0_pay3, k0_pay2]

/-! ## The arrays -/

variable (V : (c : Dev nD) → (b : Ref sig .tc) → Buf (Elt Ideal) ((c : Thread nD τ).loc b))

theorem idx0_0 : ∀ t : Fin grid0.N, win0_0.index t = ![t.val, 0] := by decide +kernel
theorem idx0_1 : ∀ t : Fin grid0.N, win0_1.index t = ![0, 0] := by decide +kernel
theorem idx0_2 : ∀ t : Fin grid0.N, win0_2.index t = ![0, t.val, 0] := by decide +kernel
theorem idx0_3 : ∀ t : Fin grid0.N, win0_3.index t = ![t.val, 0] := by decide +kernel

/-- Row `r` of block `t`. -/
def row0 (t : Fin cfg0.N) (r : Fin 512) : Fin 2048 := ⟨t.val * 512 + r.val, by have : t.val < 4 := t.isLt; omega⟩

/-- The tokens' block at point `t`. -/
theorem iblk0_0_apply (c : Dev nD) (t : Fin cfg0.N) (r : Fin 512) (k : Fin 2048) :
    iblk0 V c 0 t (ix2 r k) = V c main_call0_v0 (ix2 (row0 t r) k) := by
  have hi := idx0_0 t
  unfold iblk0; rw [View.read_apply]
  show V c main_call0_v0 _ = _
  congr 1; funext a; apply Fin.ext
  match a with
  | ⟨0, _⟩ => show win0_0.index t 0 * 512 + 1 * r.val = t.val * 512 + r.val; rw [hi]; show t.val * 512 + 1 * r.val = _; omega
  | ⟨1, _⟩ => show win0_0.index t 1 * 2048 + 1 * k.val = k.val; rw [hi]; show 0 * 2048 + 1 * k.val = _; omega

/-- The gate is read whole at every point. -/
theorem iblk0_1_eq (c : Dev nD) (t : Fin cfg0.N) : iblk0 V c 1 t = V c main_arg1 := by
  have hi := idx0_1 t
  funext y
  unfold iblk0; rw [View.read_apply]
  show V c main_arg1 _ = _
  congr 1; funext a; apply Fin.ext
  match a with
  | ⟨0, _⟩ => show win0_1.index t 0 * 16 + 1 * (y 0).val = (y 0).val; rw [hi]; show 0 * 16 + 1 * (y 0).val = _; omega
  | ⟨1, _⟩ => show win0_1.index t 1 * 2048 + 1 * (y 1).val = (y 1).val; rw [hi]; show 0 * 2048 + 1 * (y 1).val = _; omega

/-- A block's scores are the scores of its rows. -/
theorem logits_block (c : Dev nD) (t : Fin cfg0.N) (r : Fin 512) :
    logits (n := 512) (iblk0 V c 0 t) (iblk0 V c 1 t) r = logits (n := 2048) (V c main_call0_v0) (V c main_arg1) (row0 t r) := by
  funext e
  unfold logits
  rw [iblk0_1_eq V c t]
  exact Finset.sum_congr rfl fun k _ => by rw [iblk0_0_apply V c t r k]

/-- After the router, the array of planes holds every row's weights. -/
theorem planes_array (c : Dev nD) (h : PosRows (n := 2048) (V c main_call0_v0) (V c main_arg1)) :
    (dat0 V c).arrAt 2 cfg0.N = fun i : S4x2048x32.Idx =>
      planeRow (soft (logits (n := 2048) (V c main_call0_v0) (V c main_arg1) (i 1))) (i 0) (i 2) := by
  refine (dat0 V c).arrAt_eq_of_cover 2 (fun i : S4x2048x32.Idx =>
    (planeRow (soft (logits (n := 2048) (V c main_call0_v0) (V c main_arg1) (i 1))) (i 0) (i 2) : EReal)) ?_ ?_
  · intro t _
    have hi := idx0_2 t
    funext y
    refine (congrFun (after0_2 V c t) y).trans ?_
    refine (out0_2_apply _ _ (fun r e => by rw [logits_block]; exact h _ e) y).trans ?_
    refine (congrArg (fun z => planeRow (soft z) (y 0) (y 2)) (logits_block V c t (y 1))).trans ?_
    rw [View.read_apply]
    have e0 : ((cfg0.win 2).blk t).view.emb y 0 = y 0 := Fin.ext (by
      show win0_2.index t 0 * 4 + 1 * (y 0).val = (y 0).val; rw [hi]; show 0 * 4 + 1 * (y 0).val = _; omega)
    have e1 : ((cfg0.win 2).blk t).view.emb y 1 = row0 t (y 1) := Fin.ext (by
      show win0_2.index t 1 * 512 + 1 * (y 1).val = t.val * 512 + (y 1).val; rw [hi]; show t.val * 512 + 1 * (y 1).val = _; omega)
    have e2 : ((cfg0.win 2).blk t).view.emb y 2 = y 2 := Fin.ext (by
      show win0_2.index t 2 * 32 + 1 * (y 2).val = (y 2).val; rw [hi]; show 0 * 32 + 1 * (y 2).val = _; omega)
    have key : ∀ (a a' : Fin 2048) (b b' : Fin 4) (d d' : Fin 32), a' = a → b' = b → d' = d →
        planeRow (soft (logits (n := 2048) (V c main_call0_v0) (V c main_arg1) a)) b d
          = planeRow (soft (logits (n := 2048) (V c main_call0_v0) (V c main_arg1) a')) b' d' := by
      rintro a _ b _ d _ rfl rfl rfl; rfl
    exact key _ _ _ _ _ _ e1 e0 e2
  · intro i
    have h1 : (i 1).val < 2048 := (i 1).isLt
    have ht : (i 1).val / 512 < 4 := by omega
    refine ⟨⟨(i 1).val / 512, ht⟩, flush0_2 _, ?_⟩
    have hi := idx0_2 ⟨(i 1).val / 512, ht⟩
    show i ∈ ((View.whole main_call0_v3_0).slice (win0_2.rect ⟨(i 1).val / 512, ht⟩)).set
    rw [View.set_slice_whole, Rect.mem_set_unit]
    intro a
    match a with
    | ⟨0, _⟩ =>
      show win0_2.index ⟨(i 1).val / 512, ht⟩ 0 * 4 ≤ (i 0).val ∧ (i 0).val < win0_2.index ⟨(i 1).val / 512, ht⟩ 0 * 4 + 4
      rw [hi]; have : (i 0).val < 4 := (i 0).isLt; show 0 * 4 ≤ _ ∧ _ < 0 * 4 + 4; omega
    | ⟨1, _⟩ =>
      show win0_2.index ⟨(i 1).val / 512, ht⟩ 1 * 512 ≤ (i 1).val ∧ (i 1).val < win0_2.index ⟨(i 1).val / 512, ht⟩ 1 * 512 + 512
      rw [hi]; show (i 1).val / 512 * 512 ≤ _ ∧ _ < (i 1).val / 512 * 512 + 512; omega
    | ⟨2, _⟩ =>
      show win0_2.index ⟨(i 1).val / 512, ht⟩ 2 * 32 ≤ (i 2).val ∧ (i 2).val < win0_2.index ⟨(i 1).val / 512, ht⟩ 2 * 32 + 32
      rw [hi]; have : (i 2).val < 32 := (i 2).isLt; show 0 * 32 ≤ _ ∧ _ < 0 * 32 + 32; omega

/-- After the router, the narrowed tokens' array holds the tokens. -/
theorem tokens_array (c : Dev nD) : (dat0 V c).arrAt 3 cfg0.N = (fun i => V c main_call0_v0 i : S2048x2048.Idx → EReal) := by
  refine (dat0 V c).arrAt_eq_of_cover 3 (fun i => V c main_call0_v0 i : S2048x2048.Idx → EReal) ?_ ?_
  · intro t _
    have hi := idx0_3 t
    funext y
    refine (congrFun (after0_3 V c t) y).trans ?_
    rw [out0_3_eq, View.read_apply]
    have hj : iblk0 V c 0 t y = V c main_call0_v0 (ix2 (row0 t (y 0)) (y 1)) := by
      rw [← iblk0_0_apply V c t (y 0) (y 1)]; exact congrArg _ (eq_ix2 y)
    refine hj.trans ?_
    show V c main_call0_v0 _ = V c main_call0_v0 (((cfg0.win 3).blk t).view.emb y)
    congr 1; funext a; apply Fin.ext
    match a with
    | ⟨0, _⟩ => show t.val * 512 + (y 0).val = win0_3.index t 0 * 512 + 1 * (y 0).val; rw [hi]; show _ = t.val * 512 + 1 * (y 0).val; omega
    | ⟨1, _⟩ => show (y 1).val = win0_3.index t 1 * 2048 + 1 * (y 1).val; rw [hi]; show _ = 0 * 2048 + 1 * (y 1).val; omega
  · intro i
    have h0 : (i 0).val < 2048 := (i 0).isLt
    have ht : (i 0).val / 512 < 4 := by omega
    refine ⟨⟨(i 0).val / 512, ht⟩, flush0_3 _, ?_⟩
    have hi := idx0_3 ⟨(i 0).val / 512, ht⟩
    show i ∈ ((View.whole main_call0_v3_1).slice (win0_3.rect ⟨(i 0).val / 512, ht⟩)).set
    rw [View.set_slice_whole, Rect.mem_set_unit]
    intro a
    match a with
    | ⟨0, _⟩ =>
      show win0_3.index ⟨(i 0).val / 512, ht⟩ 0 * 512 ≤ (i 0).val ∧ (i 0).val < win0_3.index ⟨(i 0).val / 512, ht⟩ 0 * 512 + 512
      rw [hi]; show (i 0).val / 512 * 512 ≤ _ ∧ _ < (i 0).val / 512 * 512 + 512; omega
    | ⟨1, _⟩ =>
      show win0_3.index ⟨(i 0).val / 512, ht⟩ 1 * 2048 ≤ (i 1).val ∧ (i 1).val < win0_3.index ⟨(i 0).val / 512, ht⟩ 1 * 2048 + 2048
      rw [hi]; have : (i 1).val < 2048 := (i 1).isLt; show 0 * 2048 ≤ _ ∧ _ < 0 * 2048 + 2048; omega

end Cert.KernelIdeal.Moe

end
-- ==== Proof.Equation.lean ====
/- The kernel's sums are the entry's: the planes' sixteen weights are a group's four, and the scalar goes through the sum over
   the units. -/
module

public import proofs.«01_k».proof.Proof.RoutedValue
public import proofs.«01_k».proof.Proof.RouteArray

@[expose] public section

noncomputable section

namespace Cert.KernelIdeal.Moe

open Cert.KernelIdeal.Gen Cert.Moe
open Idealize.ShloMosaic

/-- The modulated token: of the sixteen weights only the group's four count. -/
theorem modulated_eq (X : S2048x2048.Idx → EReal) (sel : S4x2048x32.Idx → EReal) (M : S2048x16.Idx → EReal) (P : Fin 16 → EReal)
    (t : Fin 2048) (hs : ∀ g j, sel (ix3 g t j) = planeRow P g j) (g : Fin 4) (k : Fin 2048) :
    modulated X sel M g (ix2 t k) = X (ix2 t k) + ∑ i : Fin 4, weight P g i * M (ix2 k (member g i)) := by
  have hw : ∀ e : Fin 16, sel (ix3 g t ⟨e.val, by omega⟩) * M (ix2 k e)
      = if e.val / 4 = g.val then weight P g ⟨e.val % 4, by omega⟩ * M (ix2 k e) else 0 := fun e => by
    rw [hs]
    unfold planeRow
    rw [dif_pos e.isLt]
    by_cases h : e.val / 4 = g.val
    · rw [if_pos h, if_pos h]
    · rw [if_neg h, if_neg h, zero_mul]
  have hm : ∀ i : Fin 4, weight P g ⟨(member g i).val % 4, by omega⟩ = weight P g i := fun i =>
    congrArg (weight P g) (Fin.ext (by simp only [member]; omega))
  show X (ix2 t k) + ∑ e : Fin 16, sel (ix3 g t ⟨e.val, by omega⟩) * M (ix2 k e) = _
  simp only [hw]
  rw [sum_group g fun e => weight P g ⟨e.val % 4, by omega⟩ * M (ix2 k e)]
  simp only [hm]

/-- The planes' entry after the weights is the scalar. -/
theorem planeRow_scal (P : Fin 16 → EReal) (g : Fin 4) : planeRow P g 16 = scal P g := by
  unfold planeRow
  rw [dif_neg (by decide), if_pos (by decide)]

/-- The routed and the shared sums together are the entry. -/
theorem sums_entry (X : S2048x2048.Idx → EReal) (sel : S4x2048x32.Idx → EReal) (M : S2048x16.Idx → EReal)
    (wg wu : S4x1024x2048.Idx → EReal) (wd : S4x2048x1024.Idx → EReal) (sg su sd : S2048x2048.Idx → EReal) (P : Fin 16 → EReal)
    (hP : ∀ e, ∃ q : ℝ, 0 < q ∧ P e = (q : EReal)) (t h : Fin 2048) (hs : ∀ g j, sel (ix3 g t j) = planeRow P g j) :
    sharedSum (routedSum X sel M wg wu wd) X sg su sd (ix2 t h)
      = entry P (fun k => X (ix2 t k)) (fun g k i => M (ix2 k (member g i))) (fun g u k => wg (ix3 g u k)) (fun g u k => wu (ix3 g u k))
        (fun g u => wd (ix3 g h u)) (fun n k => sg (ix2 n k)) (fun n k => su (ix2 n k)) (fun n => sd (ix2 h n)) := by
  have hr : routedSum X sel M wg wu wd (ix2 t h) = ∑ g : Fin 4, groupPart P g (fun k => X (ix2 t k)) (fun k i => M (ix2 k (member g i)))
      (fun u k => wg (ix3 g u k)) (fun u k => wu (ix3 g u k)) (fun u => wd (ix3 g h u)) := by
    refine Finset.sum_congr rfl fun g _ => ?_
    unfold groupPart
    rw [mul_sum_of_nonneg (scal_real P hP g).1 (scal_real P hP g).2]
    refine Finset.sum_congr rfl fun u _ => ?_
    have hx : (fun k => modulated X sel M g (ix2 t k)) = fun k => X (ix2 t k) + ∑ i : Fin 4, weight P g i * M (ix2 k (member g i)) :=
      funext fun k => modulated_eq X sel M P t hs g k
    show neuron (fun k => modulated X sel M g (ix2 t k)) (fun k => wg (ix3 g u k)) (fun k => wu (ix3 g u k)) * sel (ix3 g t 16) * wd (ix3 g h u) = _
    rw [hx, hs, planeRow_scal, mul_comm (neuron _ _ _) (scal P g), mul_assoc]
  show routedSum X sel M wg wu wd (ix2 t h) + _ = _
  rw [hr]
  rfl

end Cert.KernelIdeal.Moe

end
-- ==== Proof.KernelValue.lean ====
/- What the whole kernel returns, entry by entry, in terms of its arguments. -/
module

public import proofs.«01_k».proof.Proof.Equation
public import proofs.«01_k».proof.Proof.Run

@[expose] public section

set_option maxRecDepth 16384

noncomputable section

namespace Cert.KernelIdeal.Moe

open Cert.KernelIdeal.Gen Cert.Moe
open Idealize.ShloMosaic Idealize.ShloMosaic.TcCoe

variable (m : (ℓ : Loc nD τ sig) → Buf (Elt Ideal) ℓ) (c : Dev nD)

/-! ## The host's reshapes -/

/-- The tokens without the batch of one. -/
theorem W1_tokens : W1 m c (Proc.devRef .tc main_call0_v0)
    = (shapeCast S2048x2048 (m ((c : Thread nD τ).loc main_arg0) : FVec Ideal S1x2048x2048 .f32) shapeCasts_S1x2048x2048_S2048x2048 : FVec Ideal S2048x2048 .f32) := rfl

/-- The modulation table with one column for each expert. -/
theorem W1_table : W1 m c (Proc.devRef .tc main_call0_v2)
    = (shapeCast S2048x16 (transpose S2048x4x4 [1, 0, 2] (m ((c : Thread nD τ).loc main_arg5) : FVec Ideal S4x2048x4 .f32) transposes_S4x2048x4_S2048x4x4_1_0_2 : FVec Ideal S2048x4x4 .f32)
        shapeCasts_S2048x4x4_S2048x16 : FVec Ideal S2048x16 .f32) := rfl

/-- The result with the batch of one. -/
theorem W5_result : W5 m c (Proc.devRef .tc main_v0)
    = (shapeCast S1x2048x2048 (W4 m c (Proc.devRef .tc main_call0_v5) : FVec Ideal S2048x2048 .f32) shapeCasts_S2048x2048_S1x2048x2048 : FVec Ideal S1x2048x2048 .f32) := rfl

/-- A token's entry. -/
theorem tokens_at (x : FVec Ideal S1x2048x2048 .f32) (t k : Fin 2048) :
    shapeCast S2048x2048 x shapeCasts_S1x2048x2048_S2048x2048 (ix2 t k) = x (ix3 0 t k) := by
  pointwise []

/-- The table's entry for a group's member. -/
theorem table_at (a : FVec Ideal S4x2048x4 .f32) (k : Fin 2048) (g i : Fin 4) :
    shapeCast S2048x16 (transpose S2048x4x4 [1, 0, 2] a transposes_S4x2048x4_S2048x4x4_1_0_2 : FVec Ideal S2048x4x4 .f32)
      shapeCasts_S2048x4x4_S2048x16 (ix2 k (member g i)) = a (ix3 g k i) := by
  have hd : (⟨(member g i).val / 4, by omega⟩ : Fin 4) = g := Fin.ext (by simp only [member]; omega)
  have hm : (⟨(member g i).val % 4, by omega⟩ : Fin 4) = i := Fin.ext (by simp only [member]; omega)
  pointwise []
  rw [hd, hm]

/-- The result's entry. -/
theorem result_at (y : FVec Ideal S2048x2048 .f32) (t h : Fin 2048) :
    shapeCast S1x2048x2048 y shapeCasts_S2048x2048_S1x2048x2048 (ix3 0 t h) = y (ix2 t h) := by
  pointwise []

/-! ## From one kernel to the next -/

/-- The tokens the later kernels read are the router's copy of them. -/
theorem W2_tokens : W2 m c (Proc.devRef .tc main_call0_v3_1) = (W1 m c (Proc.devRef .tc main_call0_v0) : S2048x2048.Idx → EReal) :=
  (W2_arr m c 3).trans (tokens_array (readAt (W1 m)) c)

/-- The planes, when the router's scores are such that every probability is a positive real. -/
theorem W2_planes (h : PosRows (n := 2048) (readAt (W1 m) c main_call0_v0) (readAt (W1 m) c main_arg1)) :
    W2 m c (Proc.devRef .tc main_call0_v3_0) = fun i : S4x2048x32.Idx =>
      planeRow (soft (logits (n := 2048) (readAt (W1 m) c main_call0_v0) (readAt (W1 m) c main_arg1) (i 1))) (i 0) (i 2) :=
  (W2_arr m c 2).trans (planes_array (readAt (W1 m)) c h)

/-- The table is not the router's. -/
theorem W2_table : W2 m c (Proc.devRef .tc main_call0_v2) = W1 m c (Proc.devRef .tc main_call0_v2) := W2_of m c main_call0_v2 (by decide)

/-- The routed experts leave the tokens. -/
theorem W3_tokens : W3 m c (Proc.devRef .tc main_call0_v3_1) = (W1 m c (Proc.devRef .tc main_call0_v0) : S2048x2048.Idx → EReal) :=
  (W3_of m c main_call0_v3_1 (by decide)).trans (W2_tokens m c)

/-- The routed experts' sum. -/
theorem W3_routed : W3 m c (Proc.devRef .tc main_call0_v4)
    = routedSum (W2 m c (Proc.devRef .tc main_call0_v3_1)) (W2 m c (Proc.devRef .tc main_call0_v3_0)) (W2 m c (Proc.devRef .tc main_call0_v2))
        (W2 m c (Proc.devRef .tc main_arg2)) (W2 m c (Proc.devRef .tc main_arg3)) (W2 m c (Proc.devRef .tc main_arg4)) :=
  (W3_arr m c 6).trans (routed_array (readAt (W2 m)) c)

/-- The shared expert's on top of it. -/
theorem W4_shared : W4 m c (Proc.devRef .tc main_call0_v5)
    = sharedSum (W3 m c (Proc.devRef .tc main_call0_v4)) (W3 m c (Proc.devRef .tc main_call0_v3_1)) (W3 m c (Proc.devRef .tc main_arg6))
        (W3 m c (Proc.devRef .tc main_arg7)) (W3 m c (Proc.devRef .tc main_arg8)) :=
  (W4_arr m c 5).trans (shared_array (readAt (W3 m)) c)

/-! ## The result -/

/-- A token's score for an expert, from the arguments. -/
def score (x0 : S1x2048x2048.Idx → EReal) (x1 : S16x2048.Idx → EReal) (t : Fin 2048) (e : Fin 16) : EReal :=
  ∑ k : Fin 2048, x0 (ix3 0 t k) * x1 (ix2 e k)

/-- The router's scores are those. -/
theorem logits_eq (x0 : FVec Ideal S1x2048x2048 .f32) (x1 : FVec Ideal S16x2048 .f32) (t : Fin 2048) :
    logits (n := 2048) (shapeCast S2048x2048 x0 shapeCasts_S1x2048x2048_S2048x2048 : FVec Ideal S2048x2048 .f32) x1 t = score x0 x1 t := by
  funext e
  unfold logits score
  simp only [tokens_at]

/-- What the kernel returns at token `t`, column `h`, when every probability is a positive real. -/
theorem result_entry (x0 : FVec Ideal S1x2048x2048 .f32) (x1 : FVec Ideal S16x2048 .f32) (x2 x3 : FVec Ideal S4x1024x2048 .f32)
    (x4 : FVec Ideal S4x2048x1024 .f32) (x5 : FVec Ideal S4x2048x4 .f32) (x6 x7 x8 : FVec Ideal S2048x2048 .f32)
    (h0 : m ((c : Thread nD τ).loc main_arg0) = x0) (h1 : m ((c : Thread nD τ).loc main_arg1) = x1)
    (h2 : m ((c : Thread nD τ).loc main_arg2) = x2) (h3 : m ((c : Thread nD τ).loc main_arg3) = x3)
    (h4 : m ((c : Thread nD τ).loc main_arg4) = x4) (h5 : m ((c : Thread nD τ).loc main_arg5) = x5)
    (h6 : m ((c : Thread nD τ).loc main_arg6) = x6) (h7 : m ((c : Thread nD τ).loc main_arg7) = x7)
    (h8 : m ((c : Thread nD τ).loc main_arg8) = x8)
    (hP : ∀ t e, ∃ q : ℝ, 0 < q ∧ soft (score x0 x1 t) e = (q : EReal)) (t h : Fin 2048) :
    (W5 m c (Proc.devRef .tc main_v0) : FVec Ideal S1x2048x2048 .f32) (ix3 0 t h)
      = entry (soft (score x0 x1 t)) (fun k => x0 (ix3 0 t k)) (fun g k i => x5 (ix3 g k i)) (fun g u k => x2 (ix3 g u k))
        (fun g u k => x3 (ix3 g u k)) (fun g u => x4 (ix3 g h u)) (fun n k => x6 (ix2 n k)) (fun n k => x7 (ix2 n k)) (fun n => x8 (ix2 h n)) := by
  have a1 := (W1_args m c main_arg1 (by decide)).trans h1
  have e0 : W1 m c (Proc.devRef .tc main_call0_v0) = (shapeCast S2048x2048 x0 shapeCasts_S1x2048x2048_S2048x2048 : FVec Ideal S2048x2048 .f32) :=
    (W1_tokens m c).trans (by rw [h0])
  have e5 : W2 m c (Proc.devRef .tc main_call0_v2)
      = (shapeCast S2048x16 (transpose S2048x4x4 [1, 0, 2] x5 transposes_S4x2048x4_S2048x4x4_1_0_2 : FVec Ideal S2048x4x4 .f32)
        shapeCasts_S2048x4x4_S2048x16 : FVec Ideal S2048x16 .f32) :=
    ((W2_table m c).trans (W1_table m c)).trans (by rw [h5])
  have hl : ∀ t, logits (n := 2048) (readAt (W1 m) c main_call0_v0) (readAt (W1 m) c main_arg1) t = score x0 x1 t := fun t => by
    show logits (n := 2048) (W1 m c (Proc.devRef .tc main_call0_v0)) (W1 m c (Proc.devRef .tc main_arg1)) t = _
    rw [e0, a1]
    exact logits_eq x0 x1 t
  have hp : PosRows (n := 2048) (readAt (W1 m) c main_call0_v0) (readAt (W1 m) c main_arg1) := fun t e => by
    rw [hl]
    exact hP t e
  have hv : W4 m c (Proc.devRef .tc main_call0_v5) = sharedSum (routedSum (shapeCast S2048x2048 x0 shapeCasts_S1x2048x2048_S2048x2048 : FVec Ideal S2048x2048 .f32)
      (fun i : S4x2048x32.Idx => planeRow (soft (score x0 x1 (i 1))) (i 0) (i 2))
      (shapeCast S2048x16 (transpose S2048x4x4 [1, 0, 2] x5 transposes_S4x2048x4_S2048x4x4_1_0_2 : FVec Ideal S2048x4x4 .f32)
        shapeCasts_S2048x4x4_S2048x16 : FVec Ideal S2048x16 .f32) x2 x3 x4)
      (shapeCast S2048x2048 x0 shapeCasts_S1x2048x2048_S2048x2048 : FVec Ideal S2048x2048 .f32) x6 x7 x8 := by
    have ep : W2 m c (Proc.devRef .tc main_call0_v3_0) = fun i : S4x2048x32.Idx => planeRow (soft (score x0 x1 (i 1))) (i 0) (i 2) :=
      (W2_planes m c hp).trans (funext fun i => congrArg (fun l => planeRow (soft l) (i 0) (i 2)) (hl (i 1)))
    rw [W4_shared, W3_routed, (W2_tokens m c).trans e0, (W3_tokens m c).trans e0, ep, e5,
      (W2_args m c main_arg2 (by decide)).trans h2, (W2_args m c main_arg3 (by decide)).trans h3, (W2_args m c main_arg4 (by decide)).trans h4,
      (W3_args m c main_arg6 (by decide)).trans h6, (W3_args m c main_arg7 (by decide)).trans h7, (W3_args m c main_arg8 (by decide)).trans h8]
  refine (congrFun (W5_result m c) (ix3 0 t h)).trans ?_
  refine (result_at _ t h).trans ?_
  rw [hv, sums_entry _ _ _ _ _ _ _ _ _ (soft (score x0 x1 t)) (hP t) t h (fun g j => rfl)]
  have ht : (fun (g : Fin 4) (k : Fin 2048) (i : Fin 4) =>
      (shapeCast S2048x16 (transpose S2048x4x4 [1, 0, 2] x5 transposes_S4x2048x4_S2048x4x4_1_0_2 : FVec Ideal S2048x4x4 .f32)
        shapeCasts_S2048x4x4_S2048x16 : FVec Ideal S2048x16 .f32) (ix2 k (member g i))) = fun g k i => x5 (ix3 g k i) :=
    funext fun g => funext fun k => funext fun i => table_at x5 k g i
  rw [ht]
  simp only [tokens_at]

end Cert.KernelIdeal.Moe

end
-- ==== Proof.Finite.lean ====
/- The precondition, read: every hidden state and every router weight is a real number, so every probability is a positive one. -/
module

public import proofs.«01_k».proof.Proof.KernelValue
public import proofs.«01_k».proof.Pre_finite_router_inputs

@[expose] public section

noncomputable section

namespace Cert.Moe

open Idealize.ShloMosaic

/-- The word of plus infinity. -/
theorem ofBits_inf : Ideal.ofBits .f32 0x7F800000#32 = ⊤ := by
  unfold Ideal.ofBits Ideal.ieee
  simp

/-- A number whose absolute value is below infinity is real. -/
theorem real_of_abs_lt {x : EReal} (h : Ideal.cmp .olt (max x (-x)) (Ideal.ofBits .f32 0x7F800000#32) = 1#1) : Real' x := by
  rw [ofBits_inf] at h
  induction x with
  | bot => simp [Ideal.cmp] at h
  | coe r => exact ⟨r, rfl⟩
  | top => simp [Ideal.cmp] at h

variable [Cert.Pre_finite_router_inputs.Facts]

open Cert.Pre_finite_router_inputs in
/-- The precondition gives real hidden states and real router weights. -/
theorem real_inputs (x0 : FVec Ideal S1x2048x2048 .f32) (x1 : FVec Ideal S16x2048 .f32) (x2 x3 : FVec Ideal S4x1024x2048 .f32)
    (x4 : FVec Ideal S4x2048x1024 .f32) (x5 : FVec Ideal S4x2048x4 .f32) (x6 x7 x8 : FVec Ideal S2048x2048 .f32)
    (h : (fn (F := Ideal) x0 x1 x2 x3 x4 x5 x6 x7 x8).1 = (fun _ => 1#1) ∧ (fn (F := Ideal) x0 x1 x2 x3 x4 x5 x6 x7 x8).2 = (fun _ => 1#1)) :
    (∀ i, Real' (x0 i)) ∧ ∀ i, Real' (x1 i) := by
  simp only [fn] at h
  exact ⟨fun i => real_of_abs_lt (congrFun h.1 i), fun i => real_of_abs_lt (congrFun h.2 i)⟩

/-- Real inputs have positive real probabilities. -/
theorem positive (x0 : FVec Ideal Cert.KernelIdeal.S1x2048x2048 .f32) (x1 : FVec Ideal Cert.KernelIdeal.S16x2048 .f32)
    (h0 : ∀ i, Real' (x0 i)) (h1 : ∀ i, Real' (x1 i)) (t : Fin 2048) (e : Fin 16) :
    ∃ q : ℝ, 0 < q ∧ soft (Cert.KernelIdeal.Moe.score x0 x1 t) e = (q : EReal) :=
  soft_pos (fun e => Real'.sum fun k => (h0 _).mul (h1 _)) e

end Cert.Moe

end
-- ==== Proof.RefRow.lean ====
/- What the reference's router computes: the probabilities, the two chosen experts, and a group's four weights. -/
module

public import proofs.«01_k».proof.Proof.Row
public import proofs.«01_k».proof.Proof.Gen.ReferenceIdeal.Read
public import Idealize.ShloMosaic.Lib.Pointwise

@[expose] public section

set_option maxRecDepth 16384

noncomputable section

namespace Cert.ReferenceIdeal.Moe

open Cert.ReferenceIdeal.Gen Cert.ReferenceIdeal.Read Cert.Moe
open Idealize.ShloMosaic

/-- Token `t`'s score for expert `e`. -/
def score (x0 : FVec Ideal S1x2048x2048 .f32) (x1 : FVec Ideal S16x2048 .f32) (t : Fin 2048) (e : Fin 16) : EReal :=
  ∑ k : Fin 2048, x0 (ix3 0 t k) * x1 (ix2 e k)

/-- The scores. -/
theorem v2_at (x0 : FVec Ideal S1x2048x2048 .f32) (x1 : FVec Ideal S16x2048 .f32) (t : Fin 2048) (e : Fin 16) :
    val_main_v2 (F := Ideal) x0 x1 (ix2 t e) = score x0 x1 t e := by
  unfold score
  pointwise [val_main_v2, val_main_v1, val_main_v0]

/-- A softmax as the reference computes it over rows of sixteen. -/
def softmax16 (y : FVec Ideal S2048x16 .f32) : FVec Ideal S2048x16 .f32 :=
  have mx : FVec Ideal S2048 .f32 := maximumf (broadcastInDim S2048 ![] bcast_S_S2048 (constant S_ .f32 0xFF800000#32))
    (Host.reduce FloatOps.maximumf y (constant S_ .f32 0xFF800000#32) reducesTo_S2048x16_S2048_d1 h_S_)
  have ex : FVec Ideal S2048x16 .f32 := Host.exp (subf y (broadcastInDim S2048x16 ![0, 1] bcast_S2048x1_S2048x16_0_1 (broadcastInDim S2048x1 ![0] bcast_S2048_S2048x1_0 mx)))
  Host.divf ex (broadcastInDim S2048x16 ![0, 1] bcast_S2048x1_S2048x16_0_1 (broadcastInDim S2048x1 ![0] bcast_S2048_S2048x1_0
    (Host.reduceAdd ex (constant S_ .f32 0x00000000#32) reducesTo_S2048x16_S2048_d1 h_S_)))

/-- That softmax, at an entry. -/
theorem softmax16_apply (y : FVec Ideal S2048x16 .f32) (t : Fin 2048) (e : Fin 16) :
    softmax16 y (ix2 t e) = soft (fun e => y (ix2 t e)) e := by
  unfold soft top
  pointwise [softmax16]
  simp only [ofBits_neg_inf, max_bot_left]

/-- The probabilities. -/
theorem v13_at (x0 : FVec Ideal S1x2048x2048 .f32) (x1 : FVec Ideal S16x2048 .f32) (t : Fin 2048) (e : Fin 16) :
    val_main_v13 (F := Ideal) x0 x1 (ix2 t e) = soft (score x0 x1 t) e := by
  have h : val_main_v13 (F := Ideal) x0 x1 = softmax16 (val_main_v2 (F := Ideal) x0 x1) := rfl
  rw [h, softmax16_apply]
  exact congrArg (fun f => soft f e) (funext fun e => v2_at x0 x1 t e)

/-- The sorted axis: a row's. -/
theorem row_axis : 1 < S2048x16.rank := by decide

/-- An index of a row, moved along the row. -/
theorem along_row (t : Fin 2048) (k e : Fin 16) :
    (ix2 t k : S2048x16.Idx).along (⟨1, row_axis⟩ : Fin S2048x16.rank) e = ix2 t e := by
  funext a
  match a with
  | ⟨0, _⟩ => rfl
  | ⟨1, _⟩ => rfl

/-- Where the sort along a row puts its experts. -/
theorem sorted_row (y : FVec Ideal S2048x16 .f32) (t : Fin 2048) (k : Fin 16) :
    sortedFrom (fun a b : Fin 16 => FloatOps.cmpfTotal (F := Ideal) (φ := .f32) .gt
      (y ((ix2 t k : S2048x16.Idx).along (⟨1, row_axis⟩ : Fin S2048x16.rank) a))
      (y ((ix2 t k : S2048x16.Idx).along (⟨1, row_axis⟩ : Fin S2048x16.rank) b)) == 1#1) k = place (fun e => y (ix2 t e)) k := by
  simp only [along_row]
  rfl

/-- A row sorted greatest first along with a second array: position `k` holds both at the expert placed there. -/
theorem sort2_at {β : Type} (y : FVec Ideal S2048x16 .f32) (z : S2048x16.Idx → β) (t : Fin 2048) (k : Fin 16) :
    (Host.sort2 S2048x16 1 (fun l r => FloatOps.cmpfTotal (F := Ideal) (φ := .f32) .gt l.1 r.1) y z).1 (ix2 t k)
      = y (ix2 t (place (fun e => y (ix2 t e)) k))
    ∧ (Host.sort2 S2048x16 1 (fun l r => FloatOps.cmpfTotal (F := Ideal) (φ := .f32) .gt l.1 r.1) y z).2 (ix2 t k)
      = z (ix2 t (place (fun e => y (ix2 t e)) k)) := by
  rw [← sorted_row]
  unfold Host.sort2
  rw [dif_pos row_axis]
  exact ⟨congrArg y (along_row t k _), congrArg z (along_row t k _)⟩

/-- The chosen experts' probabilities, greatest first. -/
theorem values_at (x0 : FVec Ideal S1x2048x2048 .f32) (x1 : FVec Ideal S16x2048 .f32) (t : Fin 2048) (k : Fin 2) :
    val_main_values (F := Ideal) x0 x1 (ix2 t k) = soft (score x0 x1 t) (place (soft (score x0 x1 t)) ⟨k.val, by omega⟩) := by
  have hp : (fun e => val_main_v13 (F := Ideal) x0 x1 (ix2 t e)) = soft (score x0 x1 t) := funext fun e => v13_at x0 x1 t e
  rw [← hp]
  unfold val_main_values
  generalize val_main_v13 (F := Ideal) x0 x1 = y
  refine Eq.trans ?_ (sort2_at y (fun i => iotaInDim S2048x16 32 ⟨1, by decide⟩ i) t ⟨k.val, by omega⟩).1
  unfold Host.topK
  simp only []
  rw [extractStridedSlice_apply (k := ix2 t ⟨k.val, by omega⟩)]
  · rfl
  · intro a
    match a with
    | ⟨0, _⟩ => exact (Nat.zero_add _).symm
    | ⟨1, _⟩ => exact (Nat.zero_add _).symm

/-- Their numbers. -/
theorem indices_at (x0 : FVec Ideal S1x2048x2048 .f32) (x1 : FVec Ideal S16x2048 .f32) (t : Fin 2048) (k : Fin 2) :
    val_main_indices (F := Ideal) x0 x1 (ix2 t k) = BitVec.ofNat 32 (place (soft (score x0 x1 t)) ⟨k.val, by omega⟩).val := by
  have hp : (fun e => val_main_v13 (F := Ideal) x0 x1 (ix2 t e)) = soft (score x0 x1 t) := funext fun e => v13_at x0 x1 t e
  rw [← hp]
  unfold val_main_indices
  generalize val_main_v13 (F := Ideal) x0 x1 = y
  refine Eq.trans ?_ (sort2_at y (fun i => iotaInDim S2048x16 32 ⟨1, by decide⟩ i) t ⟨k.val, by omega⟩).2
  unfold Host.topK
  simp only []
  rw [extractStridedSlice_apply (k := ix2 t ⟨k.val, by omega⟩)]
  · rfl
  · intro a
    match a with
    | ⟨0, _⟩ => exact (Nat.zero_add _).symm
    | ⟨1, _⟩ => exact (Nat.zero_add _).symm

/-! ## One expert's weight, and a group's four -/

/-- The mark of an expert's number, as a float: one at that expert, zero elsewhere. -/
theorem same_expert (a b : Fin 16) :
    FloatOps.uitofp (F := Ideal) .f32 (IntOp.cmpi .eq (BitVec.ofNat 32 a.val) (BitVec.ofNat 32 b.val)) = if a = b then (1 : EReal) else 0 := by
  have h : IntOp.cmpi .eq (BitVec.ofNat 32 a.val) (BitVec.ofNat 32 b.val) = BitVec.ofBool (decide (a = b)) := by
    revert a b; decide
  rw [h]
  by_cases hab : a = b
  · rw [if_pos hab, decide_eq_true hab]
    show (((1 : ℕ) : ℝ) : EReal) = 1
    norm_num
  · rw [if_neg hab, decide_eq_false hab]
    show (((0 : ℕ) : ℝ) : EReal) = 0
    norm_num

/-- The weight of the expert numbered `c`: the chosen probabilities at that number, summed. -/
def column (v : FVec Ideal S2048x2 .f32) (ix : IVec S2048x2 32) (c : BitVec 32) : FVec Ideal S2048x1 .f32 :=
  broadcastInDim S2048x1 ![0] bcast_S2048_S2048x1_0 (Host.reduceAdd (mulf v (uitofp .f32 (cmpi .eq ix (broadcastInDim S2048x2 ![] bcast_S_S2048x2 (constantI S_ 32 c)))))
    (constant S_ .f32 0x00000000#32) reducesTo_S2048x2_S2048_d1 h_S_)

/-- That weight. -/
theorem column_at (x0 : FVec Ideal S1x2048x2048 .f32) (x1 : FVec Ideal S16x2048 .f32) (t : Fin 2048) (e : Fin 16) :
    column (val_main_values (F := Ideal) x0 x1) (val_main_indices (F := Ideal) x0 x1) (BitVec.ofNat 32 e.val) (ix2 t 0)
      = flat (soft (score x0 x1 t)) e := by
  rw [flat_eq_sum]
  pointwise [column]
  simp only [values_at, indices_at, same_expert, Fin.sum_univ_two, mul_ite, mul_one, mul_zero]
  rfl

end Cert.ReferenceIdeal.Moe

end
-- ==== Proof.RefValue.lean ====
/- What the reference computes: a group's part, the shared expert, and the whole result, at an entry. -/
module

public import proofs.«01_k».proof.Proof.RefRow
public import proofs.«01_k».proof.Proof.Neuron

@[expose] public section

set_option maxRecDepth 16384

noncomputable section

namespace Cert.ReferenceIdeal.Moe

open Cert.ReferenceIdeal.Gen Cert.ReferenceIdeal.Read Cert.Moe
open Idealize.ShloMosaic

/-! ## A group's four weights -/

/-- Four columns side by side. -/
def beside (c0 c1 c2 c3 : FVec Ideal S2048x1 .f32) : FVec Ideal S2048x4 .f32 :=
  (concatenate S2048x4 1 [⟨S2048x1, (c0 : (⟨S2048x1, .f32⟩ : BufTy).Contents (Elt Ideal))⟩, ⟨S2048x1, (c1 : (⟨S2048x1, .f32⟩ : BufTy).Contents (Elt Ideal))⟩,
    ⟨S2048x1, (c2 : (⟨S2048x1, .f32⟩ : BufTy).Contents (Elt Ideal))⟩, ⟨S2048x1, (c3 : (⟨S2048x1, .f32⟩ : BufTy).Contents (Elt Ideal))⟩]
    concatenates_S2048x1_S2048x1_S2048x1_S2048x1_S2048x4_d1 : (⟨S2048x4, .f32⟩ : BufTy).Contents (Elt Ideal))

/-- A column of them. -/
theorem beside_at (c : Fin 4 → FVec Ideal S2048x1 .f32) (t : Fin 2048) (i : Fin 4) :
    beside (c 0) (c 1) (c 2) (c 3) (ix2 t i) = c i (ix2 t 0) := by
  match i with
  | ⟨0, _⟩ => pointwise [beside]
  | ⟨1, _⟩ => pointwise [beside]
  | ⟨2, _⟩ => pointwise [beside]
  | ⟨3, _⟩ => pointwise [beside]

/-- The weights of group `g`'s four experts. -/
def grouped (v : FVec Ideal S2048x2 .f32) (ix : IVec S2048x2 32) (g : Fin 4) : FVec Ideal S2048x4 .f32 :=
  beside (column v ix (BitVec.ofNat 32 (member g 0).val)) (column v ix (BitVec.ofNat 32 (member g 1).val))
    (column v ix (BitVec.ofNat 32 (member g 2).val)) (column v ix (BitVec.ofNat 32 (member g 3).val))

/-- Those weights. -/
theorem grouped_at (x0 : FVec Ideal S1x2048x2048 .f32) (x1 : FVec Ideal S16x2048 .f32) (g : Fin 4) (t : Fin 2048) (i : Fin 4) :
    grouped (val_main_values (F := Ideal) x0 x1) (val_main_indices (F := Ideal) x0 x1) g (ix2 t i)
      = flat (soft (score x0 x1 t)) (member g i) :=
  (beside_at (fun i => column (val_main_values (F := Ideal) x0 x1) (val_main_indices (F := Ideal) x0 x1) (BitVec.ofNat 32 (member g i).val)) t i).trans
    (column_at x0 x1 t (member g i))

/-! ## A group's part -/

/-- The weights with the zero ones lowered. -/
def lowered (fl : FVec Ideal S2048x4 .f32) : FVec Ideal S2048x4 .f32 :=
  select (cmpf .oeq fl (broadcastInDim S2048x4 ![] bcast_S_S2048x4 (constant S_ .f32 0x00000000#32)))
    (broadcastInDim S2048x4 ![] bcast_S_S2048x4 (constant S_ .f32 0xCE6E6B28#32)) fl

/-- They at an entry. -/
theorem lowered_apply (fl : FVec Ideal S2048x4 .f32) (t : Fin 2048) (i : Fin 4) :
    lowered fl (ix2 t i) = if fl (ix2 t i) = 0 then low else fl (ix2 t i) := by
  pointwise [lowered]
  rfl

/-- A softmax as the reference computes it over rows of four. -/
def softmax4 (y : FVec Ideal S2048x4 .f32) : FVec Ideal S2048x4 .f32 :=
  have mx : FVec Ideal S2048 .f32 := maximumf (broadcastInDim S2048 ![] bcast_S_S2048 (constant S_ .f32 0xFF800000#32))
    (Host.reduce FloatOps.maximumf y (constant S_ .f32 0xFF800000#32) reducesTo_S2048x4_S2048_d1 h_S_)
  have ex : FVec Ideal S2048x4 .f32 := Host.exp (subf y (broadcastInDim S2048x4 ![0, 1] bcast_S2048x1_S2048x4_0_1 (broadcastInDim S2048x1 ![0] bcast_S2048_S2048x1_0 mx)))
  Host.divf ex (broadcastInDim S2048x4 ![0, 1] bcast_S2048x1_S2048x4_0_1 (broadcastInDim S2048x1 ![0] bcast_S2048_S2048x1_0
    (Host.reduceAdd ex (constant S_ .f32 0x00000000#32) reducesTo_S2048x4_S2048_d1 h_S_)))

/-- That softmax, at an entry. -/
theorem softmax4_apply (y : FVec Ideal S2048x4 .f32) (t : Fin 2048) (e : Fin 4) :
    softmax4 y (ix2 t e) = soft (fun e => y (ix2 t e)) e := by
  unfold soft top
  pointwise [softmax4]
  simp only [ofBits_neg_inf, max_bot_left]

/-- Every token plus its group's mix `w` of the rows of `a`. -/
def mixed (hs : FVec Ideal S2048x2048 .f32) (w : FVec Ideal S2048x4 .f32) (a : FVec Ideal S1x2048x4 .f32) : FVec Ideal S2048x2048 .f32 :=
  addf hs (Host.dotGeneral dot_S2048x4_S4x2048_S2048x2048_1_0_0_1_n_n none w
    (transpose S4x2048 [1, 0] (shapeCast _ a shapeCasts_S1x2048x4_S2048x4) transposes_S2048x4_S4x2048_1_0))

/-- That at an entry. -/
theorem mixed_apply (hs : FVec Ideal S2048x2048 .f32) (w : FVec Ideal S2048x4 .f32) (a : FVec Ideal S1x2048x4 .f32) (t k : Fin 2048) :
    mixed hs w a (ix2 t k) = hs (ix2 t k) + ∑ i : Fin 4, w (ix2 t i) * a (ix3 0 k i) := by
  pointwise [mixed]

/-- The tokens' products with a matrix that holds one row for each unit. -/
def product (x : FVec Ideal S2048x2048 .f32) (w : FVec Ideal S1x1024x2048 .f32) : FVec Ideal S2048x1024 .f32 :=
  Host.dotGeneral dot_S2048x2048_S2048x1024_S2048x1024_1_0_0_1_n_n none x
    (transpose S2048x1024 [1, 0] (shapeCast _ w shapeCasts_S1x1024x2048_S1024x2048) transposes_S1024x2048_S2048x1024_1_0)

/-- One such product. -/
theorem product_apply (x : FVec Ideal S2048x2048 .f32) (w : FVec Ideal S1x1024x2048 .f32) (t : Fin 2048) (u : Fin 1024) :
    product x w (ix2 t u) = ∑ k : Fin 2048, x (ix2 t k) * w (ix3 0 u k) := by
  pointwise [product]

/-- The hidden units from the two products. -/
def hidden (p q : FVec Ideal S2048x1024 .f32) : FVec Ideal S2048x1024 .f32 :=
  have one : FVec Ideal S2048x1024 .f32 := broadcastInDim S2048x1024 ![] bcast_S_S2048x1024 (constant S_ .f32 0x3F800000#32)
  mulf (mulf p (Host.divf one (addf one (Host.exp (Host.negf p))))) q

/-- One hidden unit. -/
theorem hidden_apply (p q : FVec Ideal S2048x1024 .f32) (t : Fin 2048) (u : Fin 1024) :
    hidden p q (ix2 t u) = p (ix2 t u) * Ideal.logistic (p (ix2 t u)) * q (ix2 t u) := by
  unfold Ideal.logistic
  pointwise [hidden]

/-- A group's part of the result: each token's scalar times the group's output. -/
def part (hs : FVec Ideal S2048x2048 .f32) (fl : FVec Ideal S2048x4 .f32) (a : FVec Ideal S1x2048x4 .f32) (wg wu : FVec Ideal S1x1024x2048 .f32)
    (wd : FVec Ideal S1x2048x1024 .f32) : FVec Ideal S2048x2048 .f32 :=
  have x : FVec Ideal S2048x2048 .f32 := mixed hs (softmax4 (lowered fl)) a
  mulf (broadcastInDim S2048x2048 ![0, 1] bcast_S2048x1_S2048x2048_0_1 (broadcastInDim S2048x1 ![0] bcast_S2048_S2048x1_0
      (Host.reduceAdd fl (constant S_ .f32 0x00000000#32) reducesTo_S2048x4_S2048_d1 h_S_)))
    (Host.dotGeneral dot_S2048x1024_S1024x2048_S2048x2048_1_0_0_1_n_n none (hidden (product x wg) (product x wu))
      (transpose S1024x2048 [1, 0] (shapeCast _ wd shapeCasts_S1x2048x1024_S2048x1024) transposes_S2048x1024_S1024x2048_1_0))

/-- That part, at an entry. -/
theorem part_apply (hs : FVec Ideal S2048x2048 .f32) (fl : FVec Ideal S2048x4 .f32) (a : FVec Ideal S1x2048x4 .f32) (wg wu : FVec Ideal S1x1024x2048 .f32)
    (wd : FVec Ideal S1x2048x1024 .f32) (t h : Fin 2048) :
    part hs fl a wg wu wd (ix2 t h) = (∑ i : Fin 4, fl (ix2 t i)) * ∑ u : Fin 1024,
      neuron (fun k => hs (ix2 t k) + ∑ i : Fin 4, soft (fun i => if fl (ix2 t i) = 0 then low else fl (ix2 t i)) i * a (ix3 0 k i))
        (fun k => wg (ix3 0 u k)) (fun k => wu (ix3 0 u k)) * wd (ix3 0 h u) := by
  have hm : ∀ k, mixed hs (softmax4 (lowered fl)) a (ix2 t k)
      = hs (ix2 t k) + ∑ i : Fin 4, soft (fun i => if fl (ix2 t i) = 0 then low else fl (ix2 t i)) i * a (ix3 0 k i) := fun k => by
    rw [mixed_apply]
    simp only [softmax4_apply, lowered_apply]
  have hh : ∀ u, hidden (product (mixed hs (softmax4 (lowered fl)) a) wg) (product (mixed hs (softmax4 (lowered fl)) a) wu) (ix2 t u)
      = neuron (fun k => hs (ix2 t k) + ∑ i : Fin 4, soft (fun i => if fl (ix2 t i) = 0 then low else fl (ix2 t i)) i * a (ix3 0 k i))
        (fun k => wg (ix3 0 u k)) (fun k => wu (ix3 0 u k)) := fun u => by
    rw [hidden_apply, product_apply, product_apply]
    simp only [hm]
    rfl
  simp only [← hh]
  unfold part
  generalize hidden (product (mixed hs (softmax4 (lowered fl)) a) wg) (product (mixed hs (softmax4 (lowered fl)) a) wu) = z
  pointwise []

/-! ## The four parts in the reference -/

variable (x0 : FVec Ideal S1x2048x2048 .f32) (x1 : FVec Ideal S16x2048 .f32) (x2 x3 : FVec Ideal S4x1024x2048 .f32)
  (x4 : FVec Ideal S4x2048x1024 .f32) (x5 : FVec Ideal S4x2048x4 .f32) (x6 x7 x8 : FVec Ideal S2048x2048 .f32)

/-- The part of group `g` in terms of the inputs, when the four slices are that group's. -/
theorem part_at (g : Fin 4) (a : FVec Ideal S1x2048x4 .f32) (wg wu : FVec Ideal S1x1024x2048 .f32) (wd : FVec Ideal S1x2048x1024 .f32)
    (ha : ∀ k i, a (ix3 0 k i) = x5 (ix3 g k i)) (hg : ∀ u k, wg (ix3 0 u k) = x2 (ix3 g u k)) (hu : ∀ u k, wu (ix3 0 u k) = x3 (ix3 g u k))
    (hd : ∀ h u, wd (ix3 0 h u) = x4 (ix3 g h u)) (t h : Fin 2048) :
    part (val_main_v0 (F := Ideal) x0) (grouped (val_main_values (F := Ideal) x0 x1) (val_main_indices (F := Ideal) x0 x1) g) a wg wu wd (ix2 t h)
      = groupPart (soft (score x0 x1 t)) g (fun k => x0 (ix3 0 t k)) (fun k i => x5 (ix3 g k i)) (fun u k => x2 (ix3 g u k))
        (fun u k => x3 (ix3 g u k)) (fun u => x4 (ix3 g h u)) := by
  have h0 : ∀ k, val_main_v0 (F := Ideal) x0 (ix2 t k) = x0 (ix3 0 t k) := fun k => by pointwise [val_main_v0]
  rw [part_apply]
  simp only [grouped_at, ha, hg, hu, hd, h0]
  rfl

/-- The shared expert. -/
theorem shared_at (t h : Fin 2048) : val_main_v275 (F := Ideal) x0 x6 x7 x8 (ix3 0 t h)
    = ∑ n : Fin 2048, neuron (fun k => x0 (ix3 0 t k)) (fun k => x6 (ix2 n k)) (fun k => x7 (ix2 n k)) * x8 (ix2 h n) := by
  unfold neuron Ideal.logistic
  pointwise [val_main_v275, val_main_v274, val_main_v273, val_main_v272, val_main_v271, val_main_v270, val_main_v269, val_main_v268,
    val_main_call8_v5, val_main_call8_v4, val_main_call8_v3, val_main_call8_v2, val_main_call8_v1, val_main_call8_v0, val_main_call8_cst,
    val_main_call8_cst_0]

/-- Group 0's part. -/
theorem v76_eq : val_main_v76 (F := Ideal) x0 x1 x2 x3 x4 x5 = part (val_main_v0 (F := Ideal) x0)
    (grouped (val_main_values (F := Ideal) x0 x1) (val_main_indices (F := Ideal) x0 x1) 0)
    (val_main_v56 (F := Ideal) x5) (val_main_v61 (F := Ideal) x2) (val_main_v66 (F := Ideal) x3) (val_main_v71 (F := Ideal) x4) := rfl

/-- Group 1's part. -/
theorem v139_eq : val_main_v139 (F := Ideal) x0 x1 x2 x3 x4 x5 = part (val_main_v0 (F := Ideal) x0)
    (grouped (val_main_values (F := Ideal) x0 x1) (val_main_indices (F := Ideal) x0 x1) 1)
    (val_main_v119 (F := Ideal) x5) (val_main_v124 (F := Ideal) x2) (val_main_v129 (F := Ideal) x3) (val_main_v134 (F := Ideal) x4) := rfl

/-- Group 2's part. -/
theorem v202_eq : val_main_v202 (F := Ideal) x0 x1 x2 x3 x4 x5 = part (val_main_v0 (F := Ideal) x0)
    (grouped (val_main_values (F := Ideal) x0 x1) (val_main_indices (F := Ideal) x0 x1) 2)
    (val_main_v182 (F := Ideal) x5) (val_main_v187 (F := Ideal) x2) (val_main_v192 (F := Ideal) x3) (val_main_v197 (F := Ideal) x4) := rfl

/-- Group 3's part. -/
theorem v265_eq : val_main_v265 (F := Ideal) x0 x1 x2 x3 x4 x5 = part (val_main_v0 (F := Ideal) x0)
    (grouped (val_main_values (F := Ideal) x0 x1) (val_main_indices (F := Ideal) x0 x1) 3)
    (val_main_v245 (F := Ideal) x5) (val_main_v250 (F := Ideal) x2) (val_main_v255 (F := Ideal) x3) (val_main_v260 (F := Ideal) x4) := rfl

/-- The whole result, entry by entry. -/
theorem v276_at (t h : Fin 2048) : val_main_v276 (F := Ideal) x0 x1 x2 x3 x4 x5 x6 x7 x8 (ix3 0 t h)
    = entry (soft (score x0 x1 t)) (fun k => x0 (ix3 0 t k)) (fun g k i => x5 (ix3 g k i)) (fun g u k => x2 (ix3 g u k))
      (fun g u k => x3 (ix3 g u k)) (fun g u => x4 (ix3 g h u)) (fun n k => x6 (ix2 n k)) (fun n k => x7 (ix2 n k)) (fun n => x8 (ix2 h n)) := by
  have hsum : val_main_v276 (F := Ideal) x0 x1 x2 x3 x4 x5 x6 x7 x8 (ix3 0 t h)
      = ((((0 + val_main_v76 (F := Ideal) x0 x1 x2 x3 x4 x5 (ix2 t h)) + val_main_v139 (F := Ideal) x0 x1 x2 x3 x4 x5 (ix2 t h))
        + val_main_v202 (F := Ideal) x0 x1 x2 x3 x4 x5 (ix2 t h)) + val_main_v265 (F := Ideal) x0 x1 x2 x3 x4 x5 (ix2 t h))
        + val_main_v275 (F := Ideal) x0 x6 x7 x8 (ix3 0 t h) := by
    unfold val_main_v276 val_main_v267 val_main_v266 val_main_v203 val_main_v140 val_main_v77
    generalize val_main_v76 (F := Ideal) x0 x1 x2 x3 x4 x5 = r0
    generalize val_main_v139 (F := Ideal) x0 x1 x2 x3 x4 x5 = r1
    generalize val_main_v202 (F := Ideal) x0 x1 x2 x3 x4 x5 = r2
    generalize val_main_v265 (F := Ideal) x0 x1 x2 x3 x4 x5 = r3
    generalize val_main_v275 (F := Ideal) x0 x6 x7 x8 = s
    pointwise [val_main_v14, val_main_cst_2]
  have h0 := part_at x0 x1 x2 x3 x4 x5 0 (val_main_v56 (F := Ideal) x5) (val_main_v61 (F := Ideal) x2) (val_main_v66 (F := Ideal) x3)
    (val_main_v71 (F := Ideal) x4) (fun k i => by pointwise [val_main_v56]) (fun u k => by pointwise [val_main_v61])
    (fun u k => by pointwise [val_main_v66]) (fun h u => by pointwise [val_main_v71]) t h
  have h1 := part_at x0 x1 x2 x3 x4 x5 1 (val_main_v119 (F := Ideal) x5) (val_main_v124 (F := Ideal) x2) (val_main_v129 (F := Ideal) x3)
    (val_main_v134 (F := Ideal) x4) (fun k i => by pointwise [val_main_v119]) (fun u k => by pointwise [val_main_v124])
    (fun u k => by pointwise [val_main_v129]) (fun h u => by pointwise [val_main_v134]) t h
  have h2 := part_at x0 x1 x2 x3 x4 x5 2 (val_main_v182 (F := Ideal) x5) (val_main_v187 (F := Ideal) x2) (val_main_v192 (F := Ideal) x3)
    (val_main_v197 (F := Ideal) x4) (fun k i => by pointwise [val_main_v182]) (fun u k => by pointwise [val_main_v187])
    (fun u k => by pointwise [val_main_v192]) (fun h u => by pointwise [val_main_v197]) t h
  have h3 := part_at x0 x1 x2 x3 x4 x5 3 (val_main_v245 (F := Ideal) x5) (val_main_v250 (F := Ideal) x2) (val_main_v255 (F := Ideal) x3)
    (val_main_v260 (F := Ideal) x4) (fun k i => by pointwise [val_main_v245]) (fun u k => by pointwise [val_main_v250])
    (fun u k => by pointwise [val_main_v255]) (fun h u => by pointwise [val_main_v260]) t h
  rw [hsum, v76_eq, v139_eq, v202_eq, v265_eq, h0, h1, h2, h3, shared_at, zero_add]
  unfold entry
  rw [Fin.sum_univ_four]

end Cert.ReferenceIdeal.Moe

end
-- ==== Proof.Algebraic.lean ====
/- The kernel and the reference return equal arrays over the extended reals. -/
module

public import proofs.«01_k».proof.Proof.Frames
public import proofs.«01_k».proof.Proof.Finite
public import proofs.«01_k».proof.Proof.RefValue

@[expose] public section

noncomputable section

namespace Cert.Proof

open Idealize.ShloMosaic Idealize.SL.Sem Cert.Moe

attribute [local instance] Cert.KernelIdeal.Gen.facts Cert.ReferenceIdeal.Gen.facts

variable [Cert.Pre_finite_router_inputs.Facts]

/-- From equal arguments that meet the precondition the two results are the same array. -/
theorem results_equal (m : (ℓ : Loc Cert.KernelIdeal.nD Cert.KernelIdeal.τ Cert.KernelIdeal.sig) → Buf (Elt Ideal) ℓ) (c : Dev Cert.KernelIdeal.nD)
    (x0 : FVec Ideal Cert.KernelIdeal.S1x2048x2048 .f32) (x1 : FVec Ideal Cert.KernelIdeal.S16x2048 .f32)
    (x2 x3 : FVec Ideal Cert.KernelIdeal.S4x1024x2048 .f32) (x4 : FVec Ideal Cert.KernelIdeal.S4x2048x1024 .f32)
    (x5 : FVec Ideal Cert.KernelIdeal.S4x2048x4 .f32) (x6 x7 x8 : FVec Ideal Cert.KernelIdeal.S2048x2048 .f32)
    (h0 : m ((c.tc : Thread Cert.KernelIdeal.nD Cert.KernelIdeal.τ).loc Cert.KernelIdeal.main_arg0) = x0)
    (h1 : m ((c.tc : Thread Cert.KernelIdeal.nD Cert.KernelIdeal.τ).loc Cert.KernelIdeal.main_arg1) = x1)
    (h2 : m ((c.tc : Thread Cert.KernelIdeal.nD Cert.KernelIdeal.τ).loc Cert.KernelIdeal.main_arg2) = x2)
    (h3 : m ((c.tc : Thread Cert.KernelIdeal.nD Cert.KernelIdeal.τ).loc Cert.KernelIdeal.main_arg3) = x3)
    (h4 : m ((c.tc : Thread Cert.KernelIdeal.nD Cert.KernelIdeal.τ).loc Cert.KernelIdeal.main_arg4) = x4)
    (h5 : m ((c.tc : Thread Cert.KernelIdeal.nD Cert.KernelIdeal.τ).loc Cert.KernelIdeal.main_arg5) = x5)
    (h6 : m ((c.tc : Thread Cert.KernelIdeal.nD Cert.KernelIdeal.τ).loc Cert.KernelIdeal.main_arg6) = x6)
    (h7 : m ((c.tc : Thread Cert.KernelIdeal.nD Cert.KernelIdeal.τ).loc Cert.KernelIdeal.main_arg7) = x7)
    (h8 : m ((c.tc : Thread Cert.KernelIdeal.nD Cert.KernelIdeal.τ).loc Cert.KernelIdeal.main_arg8) = x8)
    (r0 : ∀ i, Real' (x0 i)) (r1 : ∀ i, Real' (x1 i)) :
    Cert.ReferenceIdeal.Read.val_main_v276 (F := Ideal) x0 x1 x2 x3 x4 x5 x6 x7 x8
      = (Cert.KernelIdeal.Moe.W5 m c (Proc.devRef .tc Cert.KernelIdeal.main_v0) : FVec Ideal Cert.KernelIdeal.S1x2048x2048 .f32) := by
  have key : ∀ (b : Fin 1) (t h : Fin 2048), Cert.ReferenceIdeal.Read.val_main_v276 (F := Ideal) x0 x1 x2 x3 x4 x5 x6 x7 x8 (ix3 b t h)
      = (Cert.KernelIdeal.Moe.W5 m c (Proc.devRef .tc Cert.KernelIdeal.main_v0) : FVec Ideal Cert.KernelIdeal.S1x2048x2048 .f32) (ix3 b t h) := fun b t h => by
    obtain rfl : b = 0 := Subsingleton.elim _ _
    exact (Cert.ReferenceIdeal.Moe.v276_at x0 x1 x2 x3 x4 x5 x6 x7 x8 t h).trans
      (Cert.KernelIdeal.Moe.result_entry m c x0 x1 x2 x3 x4 x5 x6 x7 x8 h0 h1 h2 h3 h4 h5 h6 h7 h8
        (fun t e => positive x0 x1 r0 r1 t e) t h).symm
  funext i
  rw [show i = ix3 (i 0) (i 1) (i 2) from by funext a; fin_cases a <;> rfl]
  exact key (i 0) (i 1) (i 2)

/-- The value claim. -/
theorem algebraic : Cert.algebraic_KernelIdeal_ReferenceIdeal_pre_finite_router_inputs := fun m g m' g' hpre hargs =>
  ⟨fun c => Cert.KernelIdeal.Moe.W5 m c (Proc.devRef .tc Cert.KernelIdeal.main_v0),
    (θ_run Cert.KernelIdeal.defs _ _).mono
      (fun r h c => by
        obtain ⟨a0, a1, a2, a3, a4, a5, a6, a7, a8, hv⟩ := h.1 c
        exact ⟨hv, a0, a1, a2, a3, a4, a5, a6, a7, a8⟩)
      (Cert.KernelIdeal.Moe.run_moe (F := Ideal) m g),
    (θ_run Cert.ReferenceIdeal.defs _ _).mono
      (fun r h c => ⟨by
        obtain ⟨e0, e1, e2, e3, e4, e5, e6, e7, e8⟩ := hargs c
        obtain ⟨r0, r1⟩ := real_inputs _ _ _ _ _ _ _ _ _ (hpre c)
        refine ((h c).1.trans (Cert.ReferenceIdeal.Read.val_main_v276_eq _)).trans ?_
        exact results_equal m c _ _ _ _ _ _ _ _ _ e0.symm e1.symm e2.symm e3.symm e4.symm e5.symm e6.symm e7.symm e8.symm
          (fun i => by have := r0 i; rwa [← e0] at this) (fun i => by have := r1 i; rwa [← e1] at this), (h c).2⟩)
      (Cert.ReferenceIdeal.Value.run (F := Ideal) m' g')⟩

end Cert.Proof

end
-- ==== Proof.lean ====
/- The claim, put together from its parts. -/
module

public import proofs.«01_k».proof.Defs
public import proofs.«01_k».proof.Proof.Algebraic
public import proofs.«01_k».proof.Proof.Gen.Pre_finite_router_inputs

@[expose] public section

noncomputable section

namespace Cert.Proof

attribute [local instance] Cert.Pre_finite_router_inputs.Gen.facts

/-- Every claim of the certificate. -/
theorem claim : Cert.Claim :=
  ⟨Cert.Kernel.Gen.facts, Cert.KernelIdeal.Gen.facts, Cert.ReferenceIdeal.Gen.facts, Cert.Pre_finite_router_inputs.Gen.facts,
    frame_kernel, frame_ideal, fun m ρ _ => frame_ideal m ρ trivial, frame_reference, fun m ρ _ => frame_reference m ρ trivial,
    trivial, algebraic⟩

end Cert.Proof

end
